-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spans_inside [hPre_spans_inside : Cert.Pre_spans_inside.Facts] (m : (ℓ : Loc Cert.KernelIdeal.nD Cert.KernelIdeal.τ Cert.KernelIdeal.sig) → Buf (Elt Ideal) ℓ) : Prop :=
  ∀ c : Dev Cert.KernelIdeal.nD,
    (Cert.Pre_spans_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spans_inside [hPre_spans_inside : Cert.Pre_spans_inside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spans_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_spans_inside [hKernelIdeal : Cert.KernelIdeal.Facts] [hPre_spans_inside : Cert.Pre_spans_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spans_inside m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_spans_inside [hReferenceIdeal : Cert.ReferenceIdeal.Facts] [hPre_spans_inside : Cert.Pre_spans_inside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spans_inside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_spans_inside [hKernelIdeal : Cert.KernelIdeal.Facts] [hReferenceIdeal : Cert.ReferenceIdeal.Facts] [hPre_spans_inside : Cert.Pre_spans_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spans_inside m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_spans_inside : Cert.Pre_spans_inside.Facts),
    quiescent_Kernel (hKernel := hKernel)
    ∧ quiescent_KernelIdeal (hKernelIdeal := hKernelIdeal)
    ∧ quiescent_KernelIdeal_pre_spans_inside (hKernelIdeal := hKernelIdeal) (hPre_spans_inside := hPre_spans_inside)
    ∧ quiescent_ReferenceIdeal (hReferenceIdeal := hReferenceIdeal)
    ∧ quiescent_ReferenceIdeal_pre_spans_inside (hReferenceIdeal := hReferenceIdeal) (hPre_spans_inside := hPre_spans_inside)
    ∧ preserves_Kernel_KernelIdeal
    ∧ algebraic_KernelIdeal_ReferenceIdeal_pre_spans_inside (hKernelIdeal := hKernelIdeal) (hReferenceIdeal := hReferenceIdeal) (hPre_spans_inside := hPre_spans_inside)
-- ==== Pre_spans_inside.lean ====
abbrev S8x64x2304 : Shape := ⟨3, ![8, 64, 2304]⟩
abbrev S8x64 : Shape := ⟨2, ![8, 64]⟩
abbrev S8 : Shape := ⟨1, ![8]⟩
abbrev S9216x2304 : Shape := ⟨2, ![9216, 2304]⟩
abbrev S9216 : Shape := ⟨1, ![9216]⟩
abbrev S768x4608 : Shape := ⟨2, ![768, 4608]⟩
abbrev S768 : Shape := ⟨1, ![768]⟩
abbrev S_ : Shape := ⟨0, ![]⟩

class Facts : Prop where
  reducesTo_S8x64_S8_d1 : S8x64.ReducesTo [1] S8
  h_S_ : 0 < S_.numel
  bcast_S_S8 : S_.BroadcastsInDim S8 (![] : Fin 0 → Fin S8.rank)
  reducesTo_S8_S_d0 : S8.ReducesTo [0] S_

variable [Facts]

def fn_part1 {F : FTy → Type} [FloatOps F] (main_v3 : IVec S_ 1) (main_v9 : IVec S_ 1) (main_v14 : IVec S8 1) (main_c_7 : IVec S_ 1) : IVec S_ 1 :=
  let main_v15 : IVec S_ 1 := (fun x v => Host.reduce IntOp.andi x v reducesTo_S8_S_d0 h_S_) main_v14 main_c_7
  let main_v16 : IVec S_ 1 := andi main_v3 main_v9
  let main_v17 : IVec S_ 1 := andi main_v16 main_v15
  main_v17

def fn {F : FTy → Type} [FloatOps F] (main_arg0 : FVec F S8x64x2304 .f32) (main_arg1 : IVec S8x64 32) (main_arg2 : IVec S8 32) (main_arg3 : IVec S8 32) (main_arg4 : FVec F S9216x2304 .f32) (main_arg5 : FVec F S9216x2304 .f32) (main_arg6 : FVec F S9216 .f32) (main_arg7 : FVec F S9216 .f32) (main_arg8 : FVec F S768x4608 .f32) (main_arg9 : FVec F S768 .f32) : IVec S_ 1 :=
  let main_c : IVec S_ 32 := constantI S_ 32 0#32
  let main_v0 : IVec S8 32 := (fun x v => Host.reduce IntOp.addi x v reducesTo_S8x64_S8_d1 h_S_) main_arg1 main_c
  let main_c_0 : IVec S_ 32 := constantI S_ 32 64#32
  let main_v1 : IVec S8 32 := broadcastInDim S8 ![] bcast_S_S8 main_c_0
  let main_v2 : IVec S8 1 := cmpi .eq main_v0 main_v1
  let main_c_1 : IVec S_ 1 := constantI S_ 1 1#1
  let main_v3 : IVec S_ 1 := (fun x v => Host.reduce IntOp.andi x v reducesTo_S8_S_d0 h_S_) main_v2 main_c_1
  let main_c_2 : IVec S_ 32 := constantI S_ 32 0#32
  let main_v4 : IVec S8 32 := broadcastInDim S8 ![] bcast_S_S8 main_c_2
  let main_v5 : IVec S8 1 := cmpi .sge main_arg2 main_v4
  let main_c_3 : IVec S_ 32 := constantI S_ 32 64#32
  let main_v6 : IVec S8 32 := broadcastInDim S8 ![] bcast_S_S8 main_c_3
  let main_v7 : IVec S8 1 := cmpi .sle main_arg2 main_v6
  let main_v8 : IVec S8 1 := andi main_v5 main_v7
  let main_c_4 : IVec S_ 1 := constantI S_ 1 1#1
  let main_v9 : IVec S_ 1 := (fun x v => Host.reduce IntOp.andi x v reducesTo_S8_S_d0 h_S_) main_v8 main_c_4
  let main_c_5 : IVec S_ 32 := constantI S_ 32 0#32
  let main_v10 : IVec S8 32 := broadcastInDim S8 ![] bcast_S_S8 main_c_5
  let main_v11 : IVec S8 1 := cmpi .sge main_arg3 main_v10
  let main_c_6 : IVec S_ 32 := constantI S_ 32 63#32
  let main_v12 : IVec S8 32 := broadcastInDim S8 ![] bcast_S_S8 main_c_6
  let main_v13 : IVec S8 1 := cmpi .sle main_arg3 main_v12
  let main_v14 : IVec S8 1 := andi main_v11 main_v13
  let main_c_7 : IVec S_ 1 := constantI S_ 1 1#1
  fn_part1 (F := F) main_v3 main_v9 main_v14 main_c_7
-- ==== Kernel.lean ====
abbrev S8x64x2304 : Shape := ⟨3, ![8, 64, 2304]⟩
abbrev S8x64 : Shape := ⟨2, ![8, 64]⟩
abbrev S8 : Shape := ⟨1, ![8]⟩
abbrev S9216x2304 : Shape := ⟨2, ![9216, 2304]⟩
abbrev S9216 : Shape := ⟨1, ![9216]⟩
abbrev S768x4608 : Shape := ⟨2, ![768, 4608]⟩
abbrev S768 : Shape := ⟨1, ![768]⟩
abbrev S512x2304 : Shape := ⟨2, ![512, 2304]⟩
abbrev S1x9216 : Shape := ⟨2, ![1, 9216]⟩
abbrev S1x768 : Shape := ⟨2, ![1, 768]⟩
abbrev S_ : Shape := ⟨0, ![]⟩
abbrev S16 : Shape := ⟨1, ![16]⟩
abbrev S16x1 : Shape := ⟨2, ![16, 1]⟩
abbrev S16x3 : Shape := ⟨2, ![16, 3]⟩
abbrev S16x128 : Shape := ⟨2, ![16, 128]⟩
abbrev S512x9216 : Shape := ⟨2, ![512, 9216]⟩
abbrev S2304x9216 : Shape := ⟨2, ![2304, 9216]⟩
abbrev S8x589824 : Shape := ⟨2, ![8, 589824]⟩
abbrev S16x2304 : Shape := ⟨2, ![16, 2304]⟩
abbrev S8x768 : Shape := ⟨2, ![8, 768]⟩
abbrev S768x2304 : Shape := ⟨2, ![768, 2304]⟩
abbrev S512x768 : Shape := ⟨2, ![512, 768]⟩
abbrev S2304x768 : Shape := ⟨2, ![2304, 768]⟩
abbrev S8x9216 : Shape := ⟨2, ![8, 9216]⟩
abbrev S16x9216 : Shape := ⟨2, ![16, 9216]⟩
abbrev S8x2304 : Shape := ⟨2, ![8, 2304]⟩
abbrev S8x4608 : Shape := ⟨2, ![8, 4608]⟩

abbrev nBuf : Space → Nat
  | .hbm => 42
  | .vmem => 23
  | .smem => 0
  | _ => 0

abbrev bufTy : (tb : Table) → Fin (tcTables nBuf tb) → BufTy
  | .hbm, ⟨0, _⟩ => ⟨S8x64x2304, .f32⟩
  | .hbm, ⟨1, _⟩ => ⟨S8x64, .i32⟩
  | .hbm, ⟨2, _⟩ => ⟨S8, .i32⟩
  | .hbm, ⟨3, _⟩ => ⟨S8, .i32⟩
  | .hbm, ⟨4, _⟩ => ⟨S9216x2304, .f32⟩
  | .hbm, ⟨5, _⟩ => ⟨S9216x2304, .f32⟩
  | .hbm, ⟨6, _⟩ => ⟨S9216, .f32⟩
  | .hbm, ⟨7, _⟩ => ⟨S9216, .f32⟩
  | .hbm, ⟨8, _⟩ => ⟨S768x4608, .f32⟩
  | .hbm, ⟨9, _⟩ => ⟨S768, .f32⟩
  | .hbm, ⟨10, _⟩ => ⟨S512x2304, .f32⟩
  | .hbm, ⟨11, _⟩ => ⟨S9216, .f32⟩
  | .hbm, ⟨12, _⟩ => ⟨S1x9216, .f32⟩
  | .hbm, ⟨13, _⟩ => ⟨S1x768, .f32⟩
  | .hbm, ⟨14, _⟩ => ⟨S_, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S16, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S16, .i32⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S16, .i32⟩
  | .hbm, ⟨30, _⟩ => ⟨S16x1, .i32⟩
  | .hbm, ⟨31, _⟩ => ⟨S16x1, .i32⟩
  | .hbm, ⟨32, _⟩ => ⟨S16x1, .i32⟩
  | .hbm, ⟨33, _⟩ => ⟨S16x3, .i32⟩
  | .hbm, ⟨34, _⟩ => ⟨S_, .i32⟩
  | .hbm, ⟨35, _⟩ => ⟨S_, .i32⟩
  | .hbm, ⟨36, _⟩ => ⟨S16x128, .i32⟩
  | .hbm, ⟨37, _⟩ => ⟨S512x9216, .bf16⟩
  | .hbm, ⟨38, _⟩ => ⟨S2304x9216, .bf16⟩
  | .hbm, ⟨39, _⟩ => ⟨S8x589824, .bf16⟩
  | .hbm, ⟨40, _⟩ => ⟨S16x2304, .f32⟩
  | .hbm, ⟨41, _⟩ => ⟨S8x768, .f32⟩
  | .local _ .vmem, ⟨0, _⟩ => ⟨S512x2304, .f32⟩
  | .local _ .vmem, ⟨1, _⟩ => ⟨S768x2304, .f32⟩
  | .local _ .vmem, ⟨2, _⟩ => ⟨S768x2304, .f32⟩
  | .local _ .vmem, ⟨3, _⟩ => ⟨S768x2304, .f32⟩
  | .local _ .vmem, ⟨4, _⟩ => ⟨S768x2304, .f32⟩
  | .local _ .vmem, ⟨5, _⟩ => ⟨S512x768, .bf16⟩
  | .local _ .vmem, ⟨6, _⟩ => ⟨S512x768, .bf16⟩
  | .local _ .vmem, ⟨7, _⟩ => ⟨S2304x768, .bf16⟩
  | .local _ .vmem, ⟨8, _⟩ => ⟨S2304x768, .bf16⟩
  | .local _ .vmem, ⟨9, _⟩ => ⟨S16x128, .i32⟩
  | .local _ .vmem, ⟨10, _⟩ => ⟨S8x9216, .bf16⟩
  | .local _ .vmem, ⟨11, _⟩ => ⟨S8x9216, .bf16⟩
  | .local _ .vmem, ⟨12, _⟩ => ⟨S8x9216, .bf16⟩
  | .local _ .vmem, ⟨13, _⟩ => ⟨S8x9216, .bf16⟩
  | .local _ .vmem, ⟨14, _⟩ => ⟨S2304x9216, .bf16⟩
  | .local _ .vmem, ⟨15, _⟩ => ⟨S1x9216, .f32⟩
  | .local _ .vmem, ⟨16, _⟩ => ⟨S16x2304, .f32⟩
  | .local _ .vmem, ⟨17, _⟩ => ⟨S16x2304, .f32⟩
  | .local _ .vmem, ⟨18, _⟩ => ⟨S16x2304, .f32⟩
  | .local _ .vmem, ⟨19, _⟩ => ⟨S16x2304, .f32⟩
  | .local _ .vmem, ⟨20, _⟩ => ⟨S768x4608, .f32⟩
  | .local _ .vmem, ⟨21, _⟩ => ⟨S1x768, .f32⟩
  | .local _ .vmem, ⟨22, _⟩ => ⟨S8x768, .f32⟩
  | _, _ => ⟨S8x64x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_c : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_call0_v6 : Ref sig .tc := ⟨.hbm, 18, rfl⟩
abbrev main_call0_c_1 : Ref sig .tc := ⟨.hbm, 19, rfl⟩
abbrev main_call0_v7 : Ref sig .tc := ⟨.hbm, 20, rfl⟩
abbrev main_call0_v8 : Ref sig .tc := ⟨.hbm, 21, rfl⟩
abbrev main_call0_c_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_c_4 : Ref sig .tc := ⟨.hbm, 34, rfl⟩
abbrev main_call0_call0_v0 : Ref sig .tc := ⟨.hbm, 35, rfl⟩
abbrev main_call0_v19 : Ref sig .tc := ⟨.hbm, 36, rfl⟩
abbrev main_call0_v20_0 : Ref sig .tc := ⟨.hbm, 37, rfl⟩
abbrev main_call0_v20_1 : Ref sig .tc := ⟨.hbm, 38, rfl⟩
abbrev main_call0_v21 : Ref sig .tc := ⟨.hbm, 39, rfl⟩
abbrev main_call0_v22 : Ref sig .tc := ⟨.hbm, 40, rfl⟩
abbrev main_v0 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc2_sem0_0 : DmaSem sig := 17
abbrev cc2_sem1_0 : DmaSem sig := 18
abbrev cc2_sem2_0 : DmaSem sig := 19
abbrev cc2_sem3_0 : DmaSem sig := 20

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2304x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v65 : BitVec 1 := Scalar.cmpi .eq arg0 c63_i32
  let v66 : BitVec 32 := Scalar.extui v65
  let c0_i32_21 : BitVec 32 := 0#32
  let v67 : BitVec 1 := Scalar.cmpi .ne v66 c0_i32_21
  v67

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x9216 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x9216 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2304x9216 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x9216 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x2304 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := .none

abbrev stage2_0 : Fin 1 → Memref sig .tc .vmem S16x2304 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S768x4608 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== ReferenceIdeal.lean ====
abbrev S8x64x2304 : Shape := ⟨3, ![8, 64, 2304]⟩
abbrev S8x64 : Shape := ⟨2, ![8, 64]⟩
abbrev S8 : Shape := ⟨1, ![8]⟩
abbrev S9216x2304 : Shape := ⟨2, ![9216, 2304]⟩
abbrev S9216 : Shape := ⟨1, ![9216]⟩
abbrev S768x4608 : Shape := ⟨2, ![768, 4608]⟩
abbrev S768 : Shape := ⟨1, ![768]⟩
abbrev S64 : Shape := ⟨1, ![64]⟩
abbrev S_ : Shape := ⟨0, ![]⟩
abbrev S1x64 : Shape := ⟨2, ![1, 64]⟩
abbrev S8x1 : Shape := ⟨2, ![8, 1]⟩
abbrev S8x63x2304 : Shape := ⟨3, ![8, 63, 2304]⟩
abbrev S8x1x2304 : Shape := ⟨3, ![8, 1, 2304]⟩
abbrev S8x64x1 : Shape := ⟨3, ![8, 64, 1]⟩
abbrev S8x2304 : Shape := ⟨2, ![8, 2304]⟩
abbrev S64x8x2304 : Shape := ⟨3, ![64, 8, 2304]⟩
abbrev S1x8x2304 : Shape := ⟨3, ![1, 8, 2304]⟩
abbrev S1 : Shape := ⟨1, ![1]⟩
abbrev S2304x9216 : Shape := ⟨2, ![2304, 9216]⟩
abbrev S8x9216 : Shape := ⟨2, ![8, 9216]⟩
abbrev S1x9216 : Shape := ⟨2, ![1, 9216]⟩
abbrev S1x1x1 : Shape := ⟨3, ![1, 1, 1]⟩
abbrev S8x4608 : Shape := ⟨2, ![8, 4608]⟩
abbrev S4608x768 : Shape := ⟨2, ![4608, 768]⟩
abbrev S8x768 : Shape := ⟨2, ![8, 768]⟩
abbrev S1x768 : Shape := ⟨2, ![1, 768]⟩

abbrev nBuf : Space → Nat
  | .hbm => 255
  | .vmem => 0
  | .smem => 0
  | _ => 0

abbrev hbmTy0_0 (i : Nat) : BufTy := match i % 128 with
  | 0 => ⟨S8x64x2304, .f32⟩
  | 1 => ⟨S8x64, .i32⟩
  | 2 => ⟨S8, .i32⟩
  | 3 => ⟨S8, .i32⟩
  | 4 => ⟨S9216x2304, .f32⟩
  | 5 => ⟨S9216x2304, .f32⟩
  | 6 => ⟨S9216, .f32⟩
  | 7 => ⟨S9216, .f32⟩
  | 8 => ⟨S768x4608, .f32⟩
  | 9 => ⟨S768, .f32⟩
  | 10 => ⟨S64, .i32⟩
  | 11 => ⟨S_, .i32⟩
  | 12 => ⟨S8, .i32⟩
  | 13 => ⟨S8, .i32⟩
  | 14 => ⟨S1x64, .i32⟩
  | 15 => ⟨S8x1, .i32⟩
  | 16 => ⟨S8x64, .i32⟩
  | 17 => ⟨S8x64, .i32⟩
  | 18 => ⟨S8x64, .i1⟩
  | 19 => ⟨S8x63x2304, .f32⟩
  | 20 => ⟨S_, .f32⟩
  | 21 => ⟨S8x1x2304, .f32⟩
  | 22 => ⟨S8x64x2304, .f32⟩
  | 23 => ⟨S8x64x1, .i1⟩
  | 24 => ⟨S_, .f32⟩
  | 25 => ⟨S_, .f32⟩
  | 26 => ⟨S8x64x2304, .i1⟩
  | 27 => ⟨S8x64x2304, .f32⟩
  | 28 => ⟨S8x64x2304, .f32⟩
  | 29 => ⟨S_, .i32⟩
  | 30 => ⟨S8, .i32⟩
  | 31 => ⟨S8, .i1⟩
  | 32 => ⟨S_, .i32⟩
  | 33 => ⟨S_, .i32⟩
  | 34 => ⟨S8, .i32⟩
  | 35 => ⟨S8, .i32⟩
  | 36 => ⟨S_, .f32⟩
  | 37 => ⟨S8x2304, .f32⟩
  | 38 => ⟨S_, .f32⟩
  | 39 => ⟨S8x2304, .f32⟩
  | 40 => ⟨S64x8x2304, .f32⟩
  | 41 => ⟨S64, .i32⟩
  | 42 => ⟨S_, .i32⟩
  | 43 => ⟨S64x8x2304, .f32⟩
  | 44 => ⟨S64, .i32⟩
  | 45 => ⟨S9216x2304, .f32⟩
  | 46 => ⟨S9216x2304, .f32⟩
  | 47 => ⟨S9216, .f32⟩
  | 48 => ⟨S9216, .f32⟩
  | 49 => ⟨S8, .i32⟩
  | 50 => ⟨S_, .i32⟩
  | 51 => ⟨S8x2304, .f32⟩
  | 52 => ⟨S8x2304, .f32⟩
  | 53 => ⟨S_, .i32⟩
  | 54 => ⟨S_, .i1⟩
  | 55 => ⟨S_, .i32⟩
  | 56 => ⟨S_, .i32⟩
  | 57 => ⟨S1x8x2304, .f32⟩
  | 58 => ⟨S8x2304, .f32⟩
  | 59 => ⟨S1, .i32⟩
  | 60 => ⟨S_, .i32⟩
  | 61 => ⟨S2304x9216, .f32⟩
  | 62 => ⟨S8x9216, .f32⟩
  | 63 => ⟨S2304x9216, .f32⟩
  | 64 => ⟨S8x9216, .f32⟩
  | 65 => ⟨S8x9216, .f32⟩
  | 66 => ⟨S1x9216, .f32⟩
  | 67 => ⟨S8x9216, .f32⟩
  | 68 => ⟨S8x9216, .f32⟩
  | 69 => ⟨S1x9216, .f32⟩
  | 70 => ⟨S8x9216, .f32⟩
  | 71 => ⟨S8x9216, .f32⟩
  | 72 => ⟨S8x2304, .f32⟩
  | 73 => ⟨S8x2304, .f32⟩
  | 74 => ⟨S8x2304, .f32⟩
  | 75 => ⟨S8x2304, .f32⟩
  | 76 => ⟨S8x2304, .f32⟩
  | 77 => ⟨S8x2304, .f32⟩
  | 78 => ⟨S_, .f32⟩
  | 79 => ⟨S8x2304, .f32⟩
  | 80 => ⟨S8x2304, .f32⟩
  | 81 => ⟨S_, .f32⟩
  | 82 => ⟨S8x2304, .f32⟩
  | 83 => ⟨S8x2304, .f32⟩
  | 84 => ⟨S8x2304, .f32⟩
  | 85 => ⟨S8x2304, .f32⟩
  | 86 => ⟨S_, .f32⟩
  | 87 => ⟨S8x2304, .f32⟩
  | 88 => ⟨S8x2304, .f32⟩
  | 89 => ⟨S_, .f32⟩
  | 90 => ⟨S8x2304, .f32⟩
  | 91 => ⟨S8x2304, .f32⟩
  | 92 => ⟨S8x2304, .f32⟩
  | 93 => ⟨S8x2304, .f32⟩
  | 94 => ⟨S8x2304, .f32⟩
  | 95 => ⟨S_, .f32⟩
  | 96 => ⟨S8x2304, .f32⟩
  | 97 => ⟨S8x2304, .f32⟩
  | 98 => ⟨S_, .f32⟩
  | 99 => ⟨S8x2304, .f32⟩
  | 100 => ⟨S8x2304, .f32⟩
  | 101 => ⟨S8x2304, .f32⟩
  | 102 => ⟨S8x2304, .f32⟩
  | 103 => ⟨S8x2304, .f32⟩
  | 104 => ⟨S8x2304, .f32⟩
  | 105 => ⟨S8x2304, .f32⟩
  | 106 => ⟨S8, .i32⟩
  | 107 => ⟨S8, .i1⟩
  | 108 => ⟨S8x1, .i1⟩
  | 109 => ⟨S8x2304, .i1⟩
  | 110 => ⟨S8x2304, .f32⟩
  | 111 => ⟨S8x2304, .i1⟩
  | 112 => ⟨S8x2304, .f32⟩
  | 113 => ⟨S_, .i32⟩
  | 114 => ⟨S_, .i32⟩
  | 115 => ⟨S_, .i32⟩
  | 116 => ⟨S8, .i32⟩
  | 117 => ⟨S8, .i32⟩
  | 118 => ⟨S1x64, .i32⟩
  | 119 => ⟨S8x1, .i32⟩
  | 120 => ⟨S8x64, .i32⟩
  | 121 => ⟨S8x64, .i32⟩
  | 122 => ⟨S8x64, .i1⟩
  | 123 => ⟨S8x1, .i32⟩
  | 124 => ⟨S1x64, .i32⟩
  | 125 => ⟨S8x64, .i32⟩
  | 126 => ⟨S8x64, .i32⟩
  | 127 => ⟨S8x64, .i32⟩
  | _ => ⟨S8x64x2304, .f32⟩

abbrev hbmTy0_1 (i : Nat) : BufTy := match i % 128 with
  | 0 => ⟨S_, .i32⟩
  | 1 => ⟨S_, .i32⟩
  | 2 => ⟨S_, .i32⟩
  | 3 => ⟨S8x64, .i32⟩
  | 4 => ⟨S8x64, .i32⟩
  | 5 => ⟨S_, .i32⟩
  | 6 => ⟨S8x64, .i32⟩
  | 7 => ⟨S8x64, .i32⟩
  | 8 => ⟨S8x64x1, .i32⟩
  | 9 => ⟨S_, .i32⟩
  | 10 => ⟨S8x64x1, .i32⟩
  | 11 => ⟨S8x64x1, .i1⟩
  | 12 => ⟨S_, .i32⟩
  | 13 => ⟨S8x64x1, .i32⟩
  | 14 => ⟨S8x64x1, .i32⟩
  | 15 => ⟨S8x64x1, .i32⟩
  | 16 => ⟨S1, .i32⟩
  | 17 => ⟨S_, .i32⟩
  | 18 => ⟨S8x64x1, .i32⟩
  | 19 => ⟨S8x64x1, .i1⟩
  | 20 => ⟨S1x1x1, .i32⟩
  | 21 => ⟨S8x64x1, .i32⟩
  | 22 => ⟨S8x64x1, .i1⟩
  | 23 => ⟨S8x64x1, .i1⟩
  | 24 => ⟨S_, .i1⟩
  | 25 => ⟨S8x64, .i1⟩
  | 26 => ⟨S8x64x2304, .f32⟩
  | 27 => ⟨S8x64x2304, .i1⟩
  | 28 => ⟨S_, .f32⟩
  | 29 => ⟨S8x64x2304, .f32⟩
  | 30 => ⟨S8x64x2304, .f32⟩
  | 31 => ⟨S8x64x1, .i1⟩
  | 32 => ⟨S_, .f32⟩
  | 33 => ⟨S_, .f32⟩
  | 34 => ⟨S8x64x2304, .i1⟩
  | 35 => ⟨S8x64x2304, .f32⟩
  | 36 => ⟨S8x64x2304, .f32⟩
  | 37 => ⟨S8, .i1⟩
  | 38 => ⟨S_, .i32⟩
  | 39 => ⟨S_, .i32⟩
  | 40 => ⟨S8, .i32⟩
  | 41 => ⟨S8, .i32⟩
  | 42 => ⟨S_, .f32⟩
  | 43 => ⟨S8x2304, .f32⟩
  | 44 => ⟨S_, .f32⟩
  | 45 => ⟨S8x2304, .f32⟩
  | 46 => ⟨S64x8x2304, .f32⟩
  | 47 => ⟨S64, .i32⟩
  | 48 => ⟨S_, .i32⟩
  | 49 => ⟨S64x8x2304, .f32⟩
  | 50 => ⟨S64, .i32⟩
  | 51 => ⟨S9216x2304, .f32⟩
  | 52 => ⟨S9216x2304, .f32⟩
  | 53 => ⟨S9216, .f32⟩
  | 54 => ⟨S9216, .f32⟩
  | 55 => ⟨S8, .i32⟩
  | 56 => ⟨S_, .i32⟩
  | 57 => ⟨S8x2304, .f32⟩
  | 58 => ⟨S8x2304, .f32⟩
  | 59 => ⟨S_, .i32⟩
  | 60 => ⟨S_, .i1⟩
  | 61 => ⟨S_, .i32⟩
  | 62 => ⟨S_, .i32⟩
  | 63 => ⟨S1x8x2304, .f32⟩
  | 64 => ⟨S8x2304, .f32⟩
  | 65 => ⟨S1, .i32⟩
  | 66 => ⟨S_, .i32⟩
  | 67 => ⟨S2304x9216, .f32⟩
  | 68 => ⟨S8x9216, .f32⟩
  | 69 => ⟨S2304x9216, .f32⟩
  | 70 => ⟨S8x9216, .f32⟩
  | 71 => ⟨S8x9216, .f32⟩
  | 72 => ⟨S1x9216, .f32⟩
  | 73 => ⟨S8x9216, .f32⟩
  | 74 => ⟨S8x9216, .f32⟩
  | 75 => ⟨S1x9216, .f32⟩
  | 76 => ⟨S8x9216, .f32⟩
  | 77 => ⟨S8x9216, .f32⟩
  | 78 => ⟨S8x2304, .f32⟩
  | 79 => ⟨S8x2304, .f32⟩
  | 80 => ⟨S8x2304, .f32⟩
  | 81 => ⟨S8x2304, .f32⟩
  | 82 => ⟨S8x2304, .f32⟩
  | 83 => ⟨S8x2304, .f32⟩
  | 84 => ⟨S_, .f32⟩
  | 85 => ⟨S8x2304, .f32⟩
  | 86 => ⟨S8x2304, .f32⟩
  | 87 => ⟨S_, .f32⟩
  | 88 => ⟨S8x2304, .f32⟩
  | 89 => ⟨S8x2304, .f32⟩
  | 90 => ⟨S8x2304, .f32⟩
  | 91 => ⟨S8x2304, .f32⟩
  | 92 => ⟨S_, .f32⟩
  | 93 => ⟨S8x2304, .f32⟩
  | 94 => ⟨S8x2304, .f32⟩
  | 95 => ⟨S_, .f32⟩
  | 96 => ⟨S8x2304, .f32⟩
  | 97 => ⟨S8x2304, .f32⟩
  | 98 => ⟨S8x2304, .f32⟩
  | 99 => ⟨S8x2304, .f32⟩
  | 100 => ⟨S8x2304, .f32⟩
  | 101 => ⟨S_, .f32⟩
  | 102 => ⟨S8x2304, .f32⟩
  | 103 => ⟨S8x2304, .f32⟩
  | 104 => ⟨S_, .f32⟩
  | 105 => ⟨S8x2304, .f32⟩
  | 106 => ⟨S8x2304, .f32⟩
  | 107 => ⟨S8x2304, .f32⟩
  | 108 => ⟨S8x2304, .f32⟩
  | 109 => ⟨S8x2304, .f32⟩
  | 110 => ⟨S8x2304, .f32⟩
  | 111 => ⟨S8x2304, .f32⟩
  | 112 => ⟨S8, .i32⟩
  | 113 => ⟨S8, .i1⟩
  | 114 => ⟨S8x1, .i1⟩
  | 115 => ⟨S8x2304, .i1⟩
  | 116 => ⟨S8x2304, .f32⟩
  | 117 => ⟨S8x2304, .i1⟩
  | 118 => ⟨S8x2304, .f32⟩
  | 119 => ⟨S_, .i32⟩
  | 120 => ⟨S_, .i32⟩
  | 121 => ⟨S8x4608, .f32⟩
  | 122 => ⟨S4608x768, .f32⟩
  | 123 => ⟨S8x768, .f32⟩
  | 124 => ⟨S1x768, .f32⟩
  | 125 => ⟨S8x768, .f32⟩
  | 126 => ⟨S8x768, .f32⟩
  | _ => ⟨S8x64x2304, .f32⟩

abbrev hbmTy (i : Nat) : BufTy := match i / 128 with
  | 0 => hbmTy0_0 i
  | 1 => hbmTy0_1 i
  | _ => ⟨S8x64x2304, .f32⟩

abbrev bufTy : (tb : Table) → Fin (tcTables nBuf tb) → BufTy
  | .hbm, ⟨i, _⟩ => hbmTy i
  | _, _ => ⟨S8x64x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20_0 : Ref sig .tc := ⟨.hbm, 43, rfl⟩
abbrev main_v20_1 : Ref sig .tc := ⟨.hbm, 44, rfl⟩
abbrev main_v20_2 : Ref sig .tc := ⟨.hbm, 45, rfl⟩
abbrev main_v20_3 : Ref sig .tc := ⟨.hbm, 46, rfl⟩
abbrev main_v20_4 : Ref sig .tc := ⟨.hbm, 47, rfl⟩
abbrev main_v20_5 : Ref sig .tc := ⟨.hbm, 48, rfl⟩
abbrev main_v20_6 : Ref sig .tc := ⟨.hbm, 49, rfl⟩
abbrev main_v20_7 : Ref sig .tc := ⟨.hbm, 50, rfl⟩
abbrev main_v20_8 : Ref sig .tc := ⟨.hbm, 51, rfl⟩
abbrev main_v20_9 : Ref sig .tc := ⟨.hbm, 52, rfl⟩
abbrev main_while0c_c_23 : Ref sig .tc := ⟨.hbm, 53, rfl⟩
abbrev main_while0c_v51 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_v0 : Ref sig .tc := ⟨.hbm, 57, rfl⟩
abbrev main_while0b_v51 : Ref sig .tc := ⟨.hbm, 58, rfl⟩
abbrev main_while0b_call3_v0 : Ref sig .tc := ⟨.hbm, 59, rfl⟩
abbrev main_while0b_v52 : Ref sig .tc := ⟨.hbm, 60, rfl⟩
abbrev main_while0b_v53 : Ref sig .tc := ⟨.hbm, 61, rfl⟩
abbrev main_while0b_v54 : Ref sig .tc := ⟨.hbm, 62, rfl⟩
abbrev main_while0b_v55 : Ref sig .tc := ⟨.hbm, 63, rfl⟩
abbrev main_while0b_v56 : Ref sig .tc := ⟨.hbm, 64, rfl⟩
abbrev main_while0b_v57 : Ref sig .tc := ⟨.hbm, 65, rfl⟩
abbrev main_while0b_v58 : Ref sig .tc := ⟨.hbm, 66, rfl⟩
abbrev main_while0b_v59 : Ref sig .tc := ⟨.hbm, 67, rfl⟩
abbrev main_while0b_v60 : Ref sig .tc := ⟨.hbm, 68, rfl⟩
abbrev main_while0b_v61 : Ref sig .tc := ⟨.hbm, 69, rfl⟩
abbrev main_while0b_v62 : Ref sig .tc := ⟨.hbm, 70, rfl⟩
abbrev main_while0b_v63 : Ref sig .tc := ⟨.hbm, 71, rfl⟩
abbrev main_while0b_v64 : Ref sig .tc := ⟨.hbm, 72, rfl⟩
abbrev main_while0b_v65 : Ref sig .tc := ⟨.hbm, 73, rfl⟩
abbrev main_while0b_v66 : Ref sig .tc := ⟨.hbm, 74, rfl⟩
abbrev main_while0b_v67 : Ref sig .tc := ⟨.hbm, 75, rfl⟩
abbrev main_while0b_v68 : Ref sig .tc := ⟨.hbm, 76, rfl⟩
abbrev main_while0b_v69 : Ref sig .tc := ⟨.hbm, 77, rfl⟩
abbrev main_while0b_cst_23 : Ref sig .tc := ⟨.hbm, 78, rfl⟩
abbrev main_while0b_v70 : Ref sig .tc := ⟨.hbm, 79, rfl⟩
abbrev main_while0b_v71 : Ref sig .tc := ⟨.hbm, 80, rfl⟩
abbrev main_while0b_cst_24 : Ref sig .tc := ⟨.hbm, 81, rfl⟩
abbrev main_while0b_v72 : Ref sig .tc := ⟨.hbm, 82, rfl⟩
abbrev main_while0b_v73 : Ref sig .tc := ⟨.hbm, 83, rfl⟩
abbrev main_while0b_v74 : Ref sig .tc := ⟨.hbm, 84, rfl⟩
abbrev main_while0b_v75 : Ref sig .tc := ⟨.hbm, 85, rfl⟩
abbrev main_while0b_cst_25 : Ref sig .tc := ⟨.hbm, 86, rfl⟩
abbrev main_while0b_v76 : Ref sig .tc := ⟨.hbm, 87, rfl⟩
abbrev main_while0b_v77 : Ref sig .tc := ⟨.hbm, 88, rfl⟩
abbrev main_while0b_cst_26 : Ref sig .tc := ⟨.hbm, 89, rfl⟩
abbrev main_while0b_v78 : Ref sig .tc := ⟨.hbm, 90, rfl⟩
abbrev main_while0b_v79 : Ref sig .tc := ⟨.hbm, 91, rfl⟩
abbrev main_while0b_v80 : Ref sig .tc := ⟨.hbm, 92, rfl⟩
abbrev main_while0b_v81 : Ref sig .tc := ⟨.hbm, 93, rfl⟩
abbrev main_while0b_v82 : Ref sig .tc := ⟨.hbm, 94, rfl⟩
abbrev main_while0b_cst_27 : Ref sig .tc := ⟨.hbm, 95, rfl⟩
abbrev main_while0b_v83 : Ref sig .tc := ⟨.hbm, 96, rfl⟩
abbrev main_while0b_v84 : Ref sig .tc := ⟨.hbm, 97, rfl⟩
abbrev main_while0b_cst_28 : Ref sig .tc := ⟨.hbm, 98, rfl⟩
abbrev main_while0b_v85 : Ref sig .tc := ⟨.hbm, 99, rfl⟩
abbrev main_while0b_v86 : Ref sig .tc := ⟨.hbm, 100, rfl⟩
abbrev main_while0b_v87 : Ref sig .tc := ⟨.hbm, 101, rfl⟩
abbrev main_while0b_v88 : Ref sig .tc := ⟨.hbm, 102, rfl⟩
abbrev main_while0b_v89 : Ref sig .tc := ⟨.hbm, 103, rfl⟩
abbrev main_while0b_v90 : Ref sig .tc := ⟨.hbm, 104, rfl⟩
abbrev main_while0b_v91 : Ref sig .tc := ⟨.hbm, 105, rfl⟩
abbrev main_while0b_v92 : Ref sig .tc := ⟨.hbm, 106, rfl⟩
abbrev main_while0b_v93 : Ref sig .tc := ⟨.hbm, 107, rfl⟩
abbrev main_while0b_v94 : Ref sig .tc := ⟨.hbm, 108, rfl⟩
abbrev main_while0b_call4_v0 : Ref sig .tc := ⟨.hbm, 109, rfl⟩
abbrev main_while0b_v95 : Ref sig .tc := ⟨.hbm, 110, rfl⟩
abbrev main_while0b_call5_v0 : Ref sig .tc := ⟨.hbm, 111, rfl⟩
abbrev main_while0b_v96 : Ref sig .tc := ⟨.hbm, 112, rfl⟩
abbrev main_while0b_c_29 : Ref sig .tc := ⟨.hbm, 113, rfl⟩
abbrev main_while0b_v97 : Ref sig .tc := ⟨.hbm, 114, rfl⟩
abbrev main_c_6 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_c_7 : Ref sig .tc := ⟨.hbm, 128, rfl⟩
abbrev main_c_8 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_v33 : Ref sig .tc := ⟨.hbm, 135, rfl⟩
abbrev main_v34 : Ref sig .tc := ⟨.hbm, 136, rfl⟩
abbrev main_call7_c : Ref sig .tc := ⟨.hbm, 137, rfl⟩
abbrev main_call7_v0 : Ref sig .tc := ⟨.hbm, 138, rfl⟩
abbrev main_call7_v1 : Ref sig .tc := ⟨.hbm, 139, rfl⟩
abbrev main_call7_c_0 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_call7_c_1 : Ref sig .tc := ⟨.hbm, 144, rfl⟩
abbrev main_call7_c_2 : Ref sig .tc := ⟨.hbm, 145, rfl⟩
abbrev main_call7_v5 : Ref sig .tc := ⟨.hbm, 146, rfl⟩
abbrev main_call7_v6 : Ref sig .tc := ⟨.hbm, 147, rfl⟩
abbrev main_call7_v7 : Ref sig .tc := ⟨.hbm, 148, rfl⟩
abbrev main_call7_v8 : Ref sig .tc := ⟨.hbm, 149, rfl⟩
abbrev main_call7_v9 : Ref sig .tc := ⟨.hbm, 150, rfl⟩
abbrev main_call7_v10 : Ref sig .tc := ⟨.hbm, 151, rfl⟩
abbrev main_call7_c_3 : Ref sig .tc := ⟨.hbm, 152, rfl⟩
abbrev main_call7_v11 : Ref sig .tc := ⟨.hbm, 153, rfl⟩
abbrev main_call7_v12 : Ref sig .tc := ⟨.hbm, 154, rfl⟩
abbrev main_call7_v13 : Ref sig .tc := ⟨.hbm, 155, rfl⟩
abbrev main_call7_cst : Ref sig .tc := ⟨.hbm, 156, rfl⟩
abbrev main_call7_v14 : Ref sig .tc := ⟨.hbm, 157, rfl⟩
abbrev main_v35 : Ref sig .tc := ⟨.hbm, 158, rfl⟩
abbrev main_v36 : Ref sig .tc := ⟨.hbm, 159, rfl⟩
abbrev main_cst_9 : Ref sig .tc := ⟨.hbm, 160, rfl⟩
abbrev main_call8_v0 : Ref sig .tc := ⟨.hbm, 161, rfl⟩
abbrev main_call8_v1 : Ref sig .tc := ⟨.hbm, 162, rfl⟩
abbrev main_call8_v2 : Ref sig .tc := ⟨.hbm, 163, rfl⟩
abbrev main_v37 : Ref sig .tc := ⟨.hbm, 164, rfl⟩
abbrev main_v38 : Ref sig .tc := ⟨.hbm, 165, rfl⟩
abbrev main_c_10 : Ref sig .tc := ⟨.hbm, 166, rfl⟩
abbrev main_call9_v0 : Ref sig .tc := ⟨.hbm, 167, rfl⟩
abbrev main_call9_v1 : Ref sig .tc := ⟨.hbm, 168, rfl⟩
abbrev main_v39 : Ref sig .tc := ⟨.hbm, 169, rfl⟩
abbrev main_cst_11 : Ref sig .tc := ⟨.hbm, 170, rfl⟩
abbrev main_v40 : Ref sig .tc := ⟨.hbm, 171, rfl⟩
abbrev main_cst_12 : Ref sig .tc := ⟨.hbm, 172, rfl⟩
abbrev main_v41 : Ref sig .tc := ⟨.hbm, 173, rfl⟩
abbrev main_v42 : Ref sig .tc := ⟨.hbm, 174, rfl⟩
abbrev main_v43 : Ref sig .tc := ⟨.hbm, 175, rfl⟩
abbrev main_c_13 : Ref sig .tc := ⟨.hbm, 176, rfl⟩
abbrev main_v44_0 : Ref sig .tc := ⟨.hbm, 177, rfl⟩
abbrev main_v44_1 : Ref sig .tc := ⟨.hbm, 178, rfl⟩
abbrev main_v44_2 : Ref sig .tc := ⟨.hbm, 179, rfl⟩
abbrev main_v44_3 : Ref sig .tc := ⟨.hbm, 180, rfl⟩
abbrev main_v44_4 : Ref sig .tc := ⟨.hbm, 181, rfl⟩
abbrev main_v44_5 : Ref sig .tc := ⟨.hbm, 182, rfl⟩
abbrev main_v44_6 : Ref sig .tc := ⟨.hbm, 183, rfl⟩
abbrev main_v44_7 : Ref sig .tc := ⟨.hbm, 184, rfl⟩
abbrev main_v44_8 : Ref sig .tc := ⟨.hbm, 185, rfl⟩
abbrev main_v44_9 : Ref sig .tc := ⟨.hbm, 186, rfl⟩
abbrev main_while1c_c_23 : Ref sig .tc := ⟨.hbm, 187, rfl⟩
abbrev main_while1c_v51 : Ref sig .tc := ⟨.hbm, 188, rfl⟩
abbrev main_while1b_call10_c : Ref sig .tc := ⟨.hbm, 189, rfl⟩
abbrev main_while1b_call10_c_0 : Ref sig .tc := ⟨.hbm, 190, rfl⟩
abbrev main_while1b_call10_v0 : Ref sig .tc := ⟨.hbm, 191, rfl⟩
abbrev main_while1b_v51 : Ref sig .tc := ⟨.hbm, 192, rfl⟩
abbrev main_while1b_call11_v0 : Ref sig .tc := ⟨.hbm, 193, rfl⟩
abbrev main_while1b_v52 : Ref sig .tc := ⟨.hbm, 194, rfl⟩
abbrev main_while1b_v53 : Ref sig .tc := ⟨.hbm, 195, rfl⟩
abbrev main_while1b_v54 : Ref sig .tc := ⟨.hbm, 196, rfl⟩
abbrev main_while1b_v55 : Ref sig .tc := ⟨.hbm, 197, rfl⟩
abbrev main_while1b_v56 : Ref sig .tc := ⟨.hbm, 198, rfl⟩
abbrev main_while1b_v57 : Ref sig .tc := ⟨.hbm, 199, rfl⟩
abbrev main_while1b_v58 : Ref sig .tc := ⟨.hbm, 200, rfl⟩
abbrev main_while1b_v59 : Ref sig .tc := ⟨.hbm, 201, rfl⟩
abbrev main_while1b_v60 : Ref sig .tc := ⟨.hbm, 202, rfl⟩
abbrev main_while1b_v61 : Ref sig .tc := ⟨.hbm, 203, rfl⟩
abbrev main_while1b_v62 : Ref sig .tc := ⟨.hbm, 204, rfl⟩
abbrev main_while1b_v63 : Ref sig .tc := ⟨.hbm, 205, rfl⟩
abbrev main_while1b_v64 : Ref sig .tc := ⟨.hbm, 206, rfl⟩
abbrev main_while1b_v65 : Ref sig .tc := ⟨.hbm, 207, rfl⟩
abbrev main_while1b_v66 : Ref sig .tc := ⟨.hbm, 208, rfl⟩
abbrev main_while1b_v67 : Ref sig .tc := ⟨.hbm, 209, rfl⟩
abbrev main_while1b_v68 : Ref sig .tc := ⟨.hbm, 210, rfl⟩
abbrev main_while1b_v69 : Ref sig .tc := ⟨.hbm, 211, rfl⟩
abbrev main_while1b_cst_23 : Ref sig .tc := ⟨.hbm, 212, rfl⟩
abbrev main_while1b_v70 : Ref sig .tc := ⟨.hbm, 213, rfl⟩
abbrev main_while1b_v71 : Ref sig .tc := ⟨.hbm, 214, rfl⟩
abbrev main_while1b_cst_24 : Ref sig .tc := ⟨.hbm, 215, rfl⟩
abbrev main_while1b_v72 : Ref sig .tc := ⟨.hbm, 216, rfl⟩
abbrev main_while1b_v73 : Ref sig .tc := ⟨.hbm, 217, rfl⟩
abbrev main_while1b_v74 : Ref sig .tc := ⟨.hbm, 218, rfl⟩
abbrev main_while1b_v75 : Ref sig .tc := ⟨.hbm, 219, rfl⟩
abbrev main_while1b_cst_25 : Ref sig .tc := ⟨.hbm, 220, rfl⟩
abbrev main_while1b_v76 : Ref sig .tc := ⟨.hbm, 221, rfl⟩
abbrev main_while1b_v77 : Ref sig .tc := ⟨.hbm, 222, rfl⟩
abbrev main_while1b_cst_26 : Ref sig .tc := ⟨.hbm, 223, rfl⟩
abbrev main_while1b_v78 : Ref sig .tc := ⟨.hbm, 224, rfl⟩
abbrev main_while1b_v79 : Ref sig .tc := ⟨.hbm, 225, rfl⟩
abbrev main_while1b_v80 : Ref sig .tc := ⟨.hbm, 226, rfl⟩
abbrev main_while1b_v81 : Ref sig .tc := ⟨.hbm, 227, rfl⟩
abbrev main_while1b_v82 : Ref sig .tc := ⟨.hbm, 228, rfl⟩
abbrev main_while1b_cst_27 : Ref sig .tc := ⟨.hbm, 229, rfl⟩
abbrev main_while1b_v83 : Ref sig .tc := ⟨.hbm, 230, rfl⟩
abbrev main_while1b_v84 : Ref sig .tc := ⟨.hbm, 231, rfl⟩
abbrev main_while1b_cst_28 : Ref sig .tc := ⟨.hbm, 232, rfl⟩
abbrev main_while1b_v85 : Ref sig .tc := ⟨.hbm, 233, rfl⟩
abbrev main_while1b_v86 : Ref sig .tc := ⟨.hbm, 234, rfl⟩
abbrev main_while1b_v87 : Ref sig .tc := ⟨.hbm, 235, rfl⟩
abbrev main_while1b_v88 : Ref sig .tc := ⟨.hbm, 236, rfl⟩
abbrev main_while1b_v89 : Ref sig .tc := ⟨.hbm, 237, rfl⟩
abbrev main_while1b_v90 : Ref sig .tc := ⟨.hbm, 238, rfl⟩
abbrev main_while1b_v91 : Ref sig .tc := ⟨.hbm, 239, rfl⟩
abbrev main_while1b_v92 : Ref sig .tc := ⟨.hbm, 240, rfl⟩
abbrev main_while1b_v93 : Ref sig .tc := ⟨.hbm, 241, rfl⟩
abbrev main_while1b_v94 : Ref sig .tc := ⟨.hbm, 242, rfl⟩
abbrev main_while1b_call12_v0 : Ref sig .tc := ⟨.hbm, 243, rfl⟩
abbrev main_while1b_v95 : Ref sig .tc := ⟨.hbm, 244, rfl⟩
abbrev main_while1b_call13_v0 : Ref sig .tc := ⟨.hbm, 245, rfl⟩
abbrev main_while1b_v96 : Ref sig .tc := ⟨.hbm, 246, rfl⟩
abbrev main_while1b_c_29 : Ref sig .tc := ⟨.hbm, 247, rfl⟩
abbrev main_while1b_v97 : Ref sig .tc := ⟨.hbm, 248, rfl⟩
abbrev main_v45 : Ref sig .tc := ⟨.hbm, 249, rfl⟩
abbrev main_v46 : Ref sig .tc := ⟨.hbm, 250, rfl⟩
abbrev main_v47 : Ref sig .tc := ⟨.hbm, 251, rfl⟩
abbrev main_v48 : Ref sig .tc := ⟨.hbm, 252, rfl⟩
abbrev main_v49 : Ref sig .tc := ⟨.hbm, 253, rfl⟩
abbrev main_v50 : Ref sig .tc := ⟨.hbm, 254, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Proof.Projection.lean ====
/-
  Region 0: the projection kernel. At grid point `j` it reads the whole input, tile `j` of each of the two weight
  matrices, and leaves in its two output blocks the product of the input with the first tile transposed, and the
  second tile transposed. Stated at any contents `V` of the buffers on entry and any float interpretation.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Value
public import Idealize.ShloMosaic.Lib.Pipeline.ValueKit.Basic
public import Idealize.ShloMosaic.Lib.Tactic

@[expose] public section

set_option maxRecDepth 16384

noncomputable section

namespace Cert.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The separation logic's model at this program's signature. -/
abbrev Model (F : FTy → Type) : Type := MT nD τ sig Unit (Elt F) ℕ (UR sig nD τ) ℕ

/-- Reading a whole buffer after one store of all of it gives the stored vector. -/
theorem read_after_store {κ : Kind} {sp : Space} {S : Shape} {e : EltTy} (v : View sig κ sp S e) (f : v.ty.Contents (Elt F))
    {off : Fin S.rank → Nat} (inb : ∀ a, off a + S.size a ≤ S.size a) (h : off = fun _ => 0) (p : Vec F S e)
    (L : List (View.Piece (Elt F) S e)) :
    v.read (Elt F) (v.writes (Elt F) f (⟨Rect.unit off S.size inb, p⟩ :: L)) = p := by
  subst h
  rw [View.read_writes_eq_canon v f _ fun y => ⟨_, List.mem_cons_self, by
    show y ∈ (Rect.whole S).set; rw [Rect.set_whole]; exact Finset.mem_univ y⟩]
  exact View.canon_cons_unit_zero rfl inb p L

/-- A load of a whole buffer whose contents read `X` gives `X`. -/
theorem load_all {S : Shape} {e : EltTy} (X : Vec F S e) {off : Fin S.rank → Nat} (inb : ∀ a, off a + S.size a ≤ S.size a)
    (h : off = fun _ => 0) : View.ld X (Rect.unit off S.size inb) = X :=
  View.ld_unit_zero h inb X

theorem off00 : (![0, 0] : Fin 2 → Nat) = fun _ => 0 := by decide

/-- The buffers' contents a region is entered at: one valuation per core. -/
abbrev Bufs (F : FTy → Type) : Type := (c : Dev nD) → (b : Ref sig .tc) → Buf (Elt F) ((c : Thread nD τ).loc b)

variable (V : Bufs F)

/-! ## What the body computes -/

set_option maxHeartbeats 1000000 in
/-- The projection body: from the two weight tiles and the input it leaves the two payloads. -/
theorem proj_triple (c : Dev nD) (E : Set ℕ) (i : grid0.Coords)
    (a1 : Memref sig .tc .vmem S512x2304 .f32) (h1 : a1.IsWhole) (a2 : Memref sig .tc .vmem S768x2304 .f32) (h2 : a2.IsWhole)
    (a3 : Memref sig .tc .vmem S768x2304 .f32) (h3 : a3.IsWhole) (a4 : Memref sig .tc .vmem S512x768 .bf16) (h4 : a4.IsWhole)
    (a5 : Memref sig .tc .vmem S2304x768 .bf16) (h5 : a5.IsWhole)
    (x : Vec F S512x2304 .f32) (wi wh : Vec F S768x2304 .f32) (K : PUnit → sProp (Model F)) :
    iprop(owns (c : Thread nD τ) a1 fullShare x ∗ owns (c : Thread nD τ) a2 fullShare wi ∗ owns (c : Thread nD τ) a3 fullShare wh
        ∗ (∃ d, owns (c : Thread nD τ) a4 fullShare d) ∗ (∃ d, owns (c : Thread nD τ) a5 fullShare d)
        ∗ (iprop(owns (c : Thread nD τ) a1 fullShare x ∗ owns (c : Thread nD τ) a2 fullShare wi ∗ owns (c : Thread nD τ) a3 fullShare wh
            ∗ owns (c : Thread nD τ) a4 fullShare (k0_pay1 wi x) ∗ owns (c : Thread nD τ) a5 fullShare (k0_pay2 wh)) -∗ K ⟨⟩))
      ⊢ wp frame (wpE (defs₀ (F := F)) Variants.none c none) E (cc0__proj_kernel i a1 h1 a2 h2 a3 h3 a4 h4 a5 h5) K := by
  simp only [cc0__proj_kernel_eq_skeleton]; unfold cc0__proj_kernel_skel owns
  iintro ⟨⟨%f1, %e1, H1⟩, ⟨%f2, %e2, H2⟩, ⟨%f3, %e3, H3⟩, ⟨%d4, %f4, -, H4⟩, ⟨%d5, %f5, -, H5⟩, Hk⟩
  subst e1 e2 e3
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    refine (read_after_store _ _ _ off00 _ _).trans ?_
    exact congrArg₂ k0_pay1 (load_all _ _ off00) (load_all _ _ off00)
  iexists _; isplitr
  swap; · iexact H5
  ipureintro
  refine (read_after_store _ _ _ off00 _ _).trans ?_
  exact congrArg k0_pay2 (load_all _ _ off00)

/-! ## The pipeline's proof data -/

/-- Window `w`'s block at point `t` of region 0, cut out of its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's data: inputs keep their blocks, each output block is its payload of the input blocks. -/
def proj (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => k0_pay1 (tile0 V c 1 t) (tile0 V c 0 t)
    | ⟨4, _⟩ => k0_pay2 (tile0 V c 2 t)
  Φ _ := Pipeline.ΦA spec0 c
  q _ := fullShare
  owed _ := 0

theorem proj_A (c : Dev nD) (w : Fin cfg0.W) : (proj V c).A w = V c (Pipeline.arrRef spec0 w) := by dsimp only [proj]
theorem proj_after0 (c : Dev nD) (t : Fin cfg0.N) : (proj V c).after 0 t = tile0 V c 0 t := by dsimp only [proj]
theorem proj_after1 (c : Dev nD) (t : Fin cfg0.N) : (proj V c).after 1 t = tile0 V c 1 t := by dsimp only [proj]
theorem proj_after2 (c : Dev nD) (t : Fin cfg0.N) : (proj V c).after 2 t = tile0 V c 2 t := by dsimp only [proj]
theorem proj_after3 (c : Dev nD) (t : Fin cfg0.N) : (proj V c).after 3 t = k0_pay1 (tile0 V c 1 t) (tile0 V c 0 t) := by dsimp only [proj]
theorem proj_after4 (c : Dev nD) (t : Fin cfg0.N) : (proj V c).after 4 t = k0_pay2 (tile0 V c 2 t) := by dsimp only [proj]

/-- An input's staging buffer holds its block whenever the body runs. -/
theorem proj_before0 (c : Dev nD) (t : Fin cfg0.N) (d) : (proj V c).before 0 t d = tile0 V c 0 t :=
  ((proj V c).before_in_eq_fetched 0 rfl (fun _ => rfl) (fun _ _ _ => rfl)
    (fun t => by rw [proj_after0]; unfold Dat.blockOf tile0; rw [proj_A]) t d).trans (by unfold Dat.fetched Dat.blockOf tile0; rw [proj_A]; try rfl)
theorem proj_before1 (c : Dev nD) (t : Fin cfg0.N) (d) : (proj V c).before 1 t d = tile0 V c 1 t :=
  ((proj V c).before_in_eq_fetched 1 rfl (fun _ => rfl) (fun _ _ _ => rfl)
    (fun t => by rw [proj_after1]; unfold Dat.blockOf tile0; rw [proj_A]) t d).trans (by unfold Dat.fetched Dat.blockOf tile0; rw [proj_A]; try rfl)
theorem proj_before2 (c : Dev nD) (t : Fin cfg0.N) (d) : (proj V c).before 2 t d = tile0 V c 2 t :=
  ((proj V c).before_in_eq_fetched 2 rfl (fun _ => rfl) (fun _ _ _ => rfl)
    (fun t => by rw [proj_after2]; unfold Dat.blockOf tile0; rw [proj_A]) t d).trans (by unfold Dat.fetched Dat.blockOf tile0; rw [proj_A]; try rfl)

/-- The body at any point takes the region's data from before it to after it. -/
theorem proj_point (c : Dev nD) (t : Fin cfg0.N) :
    iprop((proj V c).Φ t.castSucc ∗ (proj V c).owesAt () t.castSucc
        ∗ (∃ d, owns (c : Thread nD τ) (st0_0 t) fullShare ((proj V c).before 0 t d))
        ∗ (∃ d, owns (c : Thread nD τ) (st0_1 t) fullShare ((proj V c).before 1 t d))
        ∗ (∃ d, owns (c : Thread nD τ) (st0_2 t) fullShare ((proj V c).before 2 t d))
        ∗ (∃ d, owns (c : Thread nD τ) (st0_3 t) fullShare ((proj V c).before 3 t d))
        ∗ (∃ d, owns (c : Thread nD τ) (st0_4 t) fullShare ((proj V c).before 4 t d)))
      ⊢ wp frame (wpE (defs₀ (F := F)) Variants.none c none) Set.univ (bodyAt0 t) fun _ =>
        iprop((proj V c).Φ t.succ ∗ (proj V c).owesAt () t.succ
          ∗ owns (c : Thread nD τ) (st0_0 t) fullShare ((proj V c).after 0 t)
          ∗ owns (c : Thread nD τ) (st0_1 t) fullShare ((proj V c).after 1 t)
          ∗ owns (c : Thread nD τ) (st0_2 t) fullShare ((proj V c).after 2 t)
          ∗ owns (c : Thread nD τ) (st0_3 t) fullShare ((proj V c).after 3 t)
          ∗ owns (c : Thread nD τ) (st0_4 t) fullShare ((proj V c).after 4 t)) := by
  unfold bodyAt0
  simp only [proj_before0, proj_before1, proj_before2]
  rw [show (proj V c).Φ t.succ = (proj V c).Φ t.castSucc from rfl,
    show (proj V c).owesAt () t.succ = (proj V c).owesAt () t.castSucc from rfl,
    proj_after0, proj_after1, proj_after2, proj_after3, proj_after4]
  iintro ⟨HΦ, Ho, ⟨%d0, H0⟩, ⟨%d1, H1⟩, ⟨%d2, H2⟩, ⟨%d3, H3⟩, ⟨%d4, H4⟩⟩
  iapply (proj_triple c Set.univ (grid0.coords t) _ _ _ _ _ _ _ _ _ _ (tile0 V c 0 t) (tile0 V c 1 t) (tile0 V c 2 t) _)
  isplitl [H0]; · iexact H0
  isplitl [H1]; · iexact H1
  isplitl [H2]; · iexact H2
  isplitl [H3]; · iexists _; iexact H3
  isplitl [H4]; · iexists _; iexact H4
  iintro HX
  isplitl [HΦ]; · iexact HΦ
  isplitl [Ho]; · iexact Ho
  iexact HX

/-- The pipeline's obligation of the projection body. -/
theorem proj_body (c : Dev nD) : BodyObligation (proj (F := F) V c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (proj_point V c t) rfl .rfl fun _ => .rfl

end Cert.Lstm

end
-- ==== Proof.Recurrence.lean ====
/-
  Region 1: the recurrence. The grid's sixty-four points are the time steps; the hidden and the cell state live in
  two scratch buffers that the points hand on. The first point clears them, every point updates the rows that are
  within their bounds, the last point writes the hidden state out. Stated at any contents `V` of the buffers on entry
  and any float interpretation.
-/
module

public import proofs.«01_k».proof.Proof.Projection
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Value
public import Idealize.ShloMosaic.Lib.Pipeline.ValueKit.Basic
public import Idealize.ShloMosaic.Lib.Tactic
public import Idealize.ShloMosaic.Lib.WordCmp

@[expose] public section

set_option maxRecDepth 16384

noncomputable section

namespace Cert.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (V : Bufs F)

/-! ## One step -/

/-- The three columns of the bounds table: first step, end of the valid steps, end of the steps fed an input. -/
abbrev colLo : Rect S16x128 := Rect.unit (s := S16x128) ![0, 0] S16x1.size inb_S16x128_S16x1_0_0
abbrev colHi : Rect S16x128 := Rect.unit (s := S16x128) ![0, 1] S16x1.size inb_S16x128_S16x1_0_1
abbrev colHx : Rect S16x128 := Rect.unit (s := S16x128) ![0, 2] S16x1.size inb_S16x128_S16x1_0_2

/-- What one step reads besides the state: the bounds table, the two input rows, the weights and the bias. -/
structure Feed (F : FTy → Type) [FloatOps F] where
  bnd : Vec F S16x128 .i32
  xl : Vec F S8x9216 .bf16
  xr : Vec F S8x9216 .bf16
  wh : Vec F S2304x9216 .bf16
  bias : Vec F S1x9216 .f32

/-- Which rows step `i` updates. -/
abbrev Feed.mask (g : Feed F) (i : grid1.Coords) : IVec S16x1 1 := k1_pay8 (F := F) i (View.ld g.bnd colLo) (View.ld g.bnd colHi)
/-- The input's share of the gates, with the bias. -/
abbrev Feed.pre (g : Feed F) (i : grid1.Coords) : FVec F S16x9216 .f32 :=
  k1_pay9 i (View.ld g.bnd colLo) (View.ld g.bnd colHx) g.xl g.xr g.bias

/-- The hidden and the cell state after step `i`. -/
def Feed.step (g : Feed F) (i : grid1.Coords) (s : Vec F S16x2304 .f32 × Vec F S16x2304 .f32) :
    Vec F S16x2304 .f32 × Vec F S16x2304 .f32 :=
  (k1_pay3 (g.mask i) s.1 s.2 (g.pre i) (k1_pay10 s.1) g.wh, k1_pay4 (g.mask i) s.2 (g.pre i) (k1_pay10 s.1) g.wh)

/-- The state before the first step: all zeros. -/
def start : Vec F S16x2304 .f32 × Vec F S16x2304 .f32 := (k1_pay5, k1_pay6)

/-- The body's first branch (clear the state) and its last (write the result), as conditions on the point. -/
abbrev isFirst (i : grid1.Coords) : Prop :=
  (Scalar.cmpi .ne (Scalar.extui (Scalar.cmpi .eq (BitVec.ofNat 32 (i 0).val) 0#32)) 0#32) = 1#1
abbrev isLast (i : grid1.Coords) : Prop := k1_cond2 i = 1#1

theorem coord1 (t : Fin cfg1.N) : (grid1.coords t 0).val = t.val := by
  have ht : t.val < 64 := Nat.lt_of_lt_of_eq t.isLt N_1
  have e : (grid1.coords t 0).val = t.val / 1 % 64 := Pipeline.Grid.coords_val t 0 (by decide) rfl
  omega

theorem isFirst_iff (t : Fin cfg1.N) : isFirst (grid1.coords t) ↔ t.val = 0 := by
  have ht : t.val < 64 := Nat.lt_of_lt_of_eq t.isLt N_1
  simp only [isFirst, coord1]
  word_cmp

theorem isLast_iff (t : Fin cfg1.N) : isLast (grid1.coords t) ↔ t.val = 63 := by
  have ht : t.val < 64 := Nat.lt_of_lt_of_eq t.isLt N_1
  simp only [isLast, k1_cond2, coord1]
  word_cmp

/-! ## What the body does, in the three kinds of points -/

theorem hid_eq {g : Feed F} {i : grid1.Coords} {s : Vec F S16x2304 .f32 × Vec F S16x2304 .f32} {m s1 s2 p q w}
    (hm : m = g.mask i) (hq : q = k1_pay10 s1) (h1 : s1 = s.1) (h2 : s2 = s.2) (hp : p = g.pre i) (hw : w = g.wh) :
    k1_pay3 m s1 s2 p q w = (g.step i s).1 := by subst hm hq h1 h2 hp hw; rfl

theorem cell_eq {g : Feed F} {i : grid1.Coords} {s : Vec F S16x2304 .f32 × Vec F S16x2304 .f32} {m s1 s2 p q w}
    (hm : m = g.mask i) (hq : q = k1_pay10 s1) (h1 : s1 = s.1) (h2 : s2 = s.2) (hp : p = g.pre i) (hw : w = g.wh) :
    k1_pay4 m s2 p q w = (g.step i s).2 := by subst hm hq h1 h2 hp hw; rfl

theorem pre_eq {g : Feed F} {i : grid1.Coords} {lo hx xl xr b} (hlo : lo = View.ld g.bnd colLo) (hhx : hx = View.ld g.bnd colHx)
    (hl : xl = g.xl) (hr : xr = g.xr) (hb : b = g.bias) :
    k1_pay9 i lo hx xl xr b = g.pre i := by subst hlo hhx hl hr hb; rfl

section Body

variable (c : Dev nD) (E : Set ℕ) (i : grid1.Coords)
    (a1 : Memref sig .tc .vmem S16x128 .i32) (h1 : a1.IsWhole) (a2 : Memref sig .tc .vmem S8x9216 .bf16) (h2 : a2.IsWhole)
    (a3 : Memref sig .tc .vmem S8x9216 .bf16) (h3 : a3.IsWhole) (a4 : Memref sig .tc .vmem S2304x9216 .bf16) (h4 : a4.IsWhole)
    (a5 : Memref sig .tc .vmem S1x9216 .f32) (h5 : a5.IsWhole) (a6 : Memref sig .tc .vmem S16x2304 .f32) (h6 : a6.IsWhole)
    (a7 : Memref sig .tc .vmem S16x2304 .f32) (h7 : a7.IsWhole) (a8 : Memref sig .tc .vmem S16x2304 .f32) (h8 : a8.IsWhole)
    (g : Feed F)

/-- The five inputs' staging buffers at what a step reads. -/
abbrev fed : sProp (Model F) :=
  iprop(owns (c : Thread nD τ) a1 fullShare g.bnd ∗ owns (c : Thread nD τ) a2 fullShare g.xl ∗ owns (c : Thread nD τ) a3 fullShare g.xr
    ∗ owns (c : Thread nD τ) a4 fullShare g.wh ∗ owns (c : Thread nD τ) a5 fullShare g.bias)

set_option maxHeartbeats 1000000 in
/-- The first point: the state is cleared, then stepped; the output buffer is left alone. -/
theorem recur_first (hf : isFirst i) (hl : ¬ isLast i) (o : Vec F S16x2304 .f32) (K : PUnit → sProp (Model F)) :
    iprop(fed c a1 a2 a3 a4 a5 g ∗ owns (c : Thread nD τ) a6 fullShare o
        ∗ (∃ d, owns (c : Thread nD τ) a7 fullShare d) ∗ (∃ d, owns (c : Thread nD τ) a8 fullShare d)
        ∗ (iprop(fed c a1 a2 a3 a4 a5 g ∗ owns (c : Thread nD τ) a6 fullShare o
            ∗ owns (c : Thread nD τ) a7 fullShare (g.step i start).1 ∗ owns (c : Thread nD τ) a8 fullShare (g.step i start).2) -∗ K ⟨⟩))
      ⊢ wp frame (wpE (defs₀ (F := F)) Variants.none c none) E (cc1__recur_kernel i a1 h1 a2 h2 a3 h3 a4 h4 a5 h5 a6 h6 a7 h7 a8 h8) K := by
  simp only [cc1__recur_kernel_eq_skeleton]; unfold cc1__recur_kernel_skel
  simp only [k1_part1_eq_skeleton]
  obtain ⟨bnd, xl, xr, wh, bias⟩ := g
  unfold fed owns
  iintro ⟨⟨⟨%f1, %e1, H1⟩, ⟨%f2, %e2, H2⟩, ⟨%f3, %e3, H3⟩, ⟨%f4, %e4, H4⟩, ⟨%f5, %e5, H5⟩⟩, ⟨%f6, %e6, H6⟩, ⟨%d7, %f7, -, H7⟩, ⟨%d8, %f8, -, H8⟩, Hk⟩
  dsimp only at e1 e2 e3 e4 e5
  subst e1 e2 e3 e4 e5 e6
  sl_exec (disch := first | sl_exact hf | sl_exact hl)
  sl_step
  iapply Hk
  isplitl [H1 H2 H3 H4 H5]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  isplitl [H6]; · iexists f6; isplitr; · ipureintro; rfl
                  iexact H6
  isplitl [H7]
  · iexists _; isplitr
    swap; · iexact H7
    ipureintro
    refine (read_after_store _ _ _ off00 _ _).trans ?_
    exact hid_eq rfl rfl (View.readCov_cons_toLoadRect _ _ _ _) (View.readCov_cons_toLoadRect _ _ _ _) (pre_eq rfl rfl (load_all _ _ off00) (load_all _ _ off00) (load_all _ _ off00)) (load_all _ _ off00)
  · iexists _; isplitr
    swap; · iexact H8
    ipureintro
    refine (read_after_store _ _ _ off00 _ _).trans ?_
    exact cell_eq rfl rfl (View.readCov_cons_toLoadRect _ _ _ _) (View.readCov_cons_toLoadRect _ _ _ _) (pre_eq rfl rfl (load_all _ _ off00) (load_all _ _ off00) (load_all _ _ off00)) (load_all _ _ off00)

set_option maxHeartbeats 1000000 in
/-- A point in between: the state is stepped; the output buffer is left alone. -/
theorem recur_mid (hf : ¬ isFirst i) (hl : ¬ isLast i) (o : Vec F S16x2304 .f32) (s : Vec F S16x2304 .f32 × Vec F S16x2304 .f32) (K : PUnit → sProp (Model F)) :
    iprop(fed c a1 a2 a3 a4 a5 g ∗ owns (c : Thread nD τ) a6 fullShare o
        ∗ owns (c : Thread nD τ) a7 fullShare s.1 ∗ owns (c : Thread nD τ) a8 fullShare s.2
        ∗ (iprop(fed c a1 a2 a3 a4 a5 g ∗ owns (c : Thread nD τ) a6 fullShare o
            ∗ owns (c : Thread nD τ) a7 fullShare (g.step i s).1 ∗ owns (c : Thread nD τ) a8 fullShare (g.step i s).2) -∗ K ⟨⟩))
      ⊢ wp frame (wpE (defs₀ (F := F)) Variants.none c none) E (cc1__recur_kernel i a1 h1 a2 h2 a3 h3 a4 h4 a5 h5 a6 h6 a7 h7 a8 h8) K := by
  simp only [cc1__recur_kernel_eq_skeleton]; unfold cc1__recur_kernel_skel
  simp only [k1_part1_eq_skeleton]
  obtain ⟨bnd, xl, xr, wh, bias⟩ := g
  obtain ⟨hs, cs⟩ := s
  dsimp only
  unfold fed owns
  iintro ⟨⟨⟨%f1, %e1, H1⟩, ⟨%f2, %e2, H2⟩, ⟨%f3, %e3, H3⟩, ⟨%f4, %e4, H4⟩, ⟨%f5, %e5, H5⟩⟩, ⟨%f6, %e6, H6⟩, ⟨%f7, %e7, H7⟩, ⟨%f8, %e8, H8⟩, Hk⟩
  dsimp only at e1 e2 e3 e4 e5
  subst e1 e2 e3 e4 e5 e6 e7 e8
  sl_exec (disch := first | sl_exact hf | sl_exact hl)
  sl_step
  iapply Hk
  isplitl [H1 H2 H3 H4 H5]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  isplitl [H6]; · iexists f6; isplitr; · ipureintro; rfl
                  iexact H6
  isplitl [H7]
  · iexists _; isplitr
    swap; · iexact H7
    ipureintro
    refine (read_after_store _ _ _ off00 _ _).trans ?_
    exact hid_eq rfl rfl (load_all _ _ off00) (load_all _ _ off00) (pre_eq rfl rfl (load_all _ _ off00) (load_all _ _ off00) (load_all _ _ off00)) (load_all _ _ off00)
  · iexists _; isplitr
    swap; · iexact H8
    ipureintro
    refine (read_after_store _ _ _ off00 _ _).trans ?_
    exact cell_eq rfl rfl (load_all _ _ off00) (load_all _ _ off00) (pre_eq rfl rfl (load_all _ _ off00) (load_all _ _ off00) (load_all _ _ off00)) (load_all _ _ off00)

set_option maxHeartbeats 1000000 in
/-- The last point: the state is stepped, and the hidden state is written out. -/
theorem recur_last (hf : ¬ isFirst i) (hl : isLast i) (s : Vec F S16x2304 .f32 × Vec F S16x2304 .f32) (K : PUnit → sProp (Model F)) :
    iprop(fed c a1 a2 a3 a4 a5 g ∗ (∃ d, owns (c : Thread nD τ) a6 fullShare d)
        ∗ owns (c : Thread nD τ) a7 fullShare s.1 ∗ owns (c : Thread nD τ) a8 fullShare s.2
        ∗ (iprop(fed c a1 a2 a3 a4 a5 g ∗ owns (c : Thread nD τ) a6 fullShare (g.step i s).1
            ∗ owns (c : Thread nD τ) a7 fullShare (g.step i s).1 ∗ owns (c : Thread nD τ) a8 fullShare (g.step i s).2) -∗ K ⟨⟩))
      ⊢ wp frame (wpE (defs₀ (F := F)) Variants.none c none) E (cc1__recur_kernel i a1 h1 a2 h2 a3 h3 a4 h4 a5 h5 a6 h6 a7 h7 a8 h8) K := by
  simp only [cc1__recur_kernel_eq_skeleton]; unfold cc1__recur_kernel_skel
  simp only [k1_part1_eq_skeleton]
  obtain ⟨bnd, xl, xr, wh, bias⟩ := g
  obtain ⟨hs, cs⟩ := s
  dsimp only
  unfold fed owns
  iintro ⟨⟨⟨%f1, %e1, H1⟩, ⟨%f2, %e2, H2⟩, ⟨%f3, %e3, H3⟩, ⟨%f4, %e4, H4⟩, ⟨%f5, %e5, H5⟩⟩, ⟨%d6, %f6, -, H6⟩, ⟨%f7, %e7, H7⟩, ⟨%f8, %e8, H8⟩, Hk⟩
  dsimp only at e1 e2 e3 e4 e5
  subst e1 e2 e3 e4 e5 e7 e8
  sl_exec (disch := first | sl_exact hf | sl_exact hl)
  sl_step
  iapply Hk
  isplitl [H1 H2 H3 H4 H5]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  isplitl [H6]
  · iexists _; isplitr
    swap; · iexact H6
    ipureintro
    refine (read_after_store _ _ _ off00 _ _).trans ?_
    refine (View.readCov_cons_toLoadRect _ _ _ _).trans ?_
    exact hid_eq rfl rfl (load_all _ _ off00) (load_all _ _ off00) (pre_eq rfl rfl (load_all _ _ off00) (load_all _ _ off00) (load_all _ _ off00)) (load_all _ _ off00)
  isplitl [H7]
  · iexists _; isplitr
    swap; · iexact H7
    ipureintro
    refine (read_after_store _ _ _ off00 _ _).trans ?_
    exact hid_eq rfl rfl (load_all _ _ off00) (load_all _ _ off00) (pre_eq rfl rfl (load_all _ _ off00) (load_all _ _ off00) (load_all _ _ off00)) (load_all _ _ off00)
  · iexists _; isplitr
    swap; · iexact H8
    ipureintro
    refine (read_after_store _ _ _ off00 _ _).trans ?_
    exact cell_eq rfl rfl (load_all _ _ off00) (load_all _ _ off00) (pre_eq rfl rfl (load_all _ _ off00) (load_all _ _ off00) (load_all _ _ off00)) (load_all _ _ off00)

end Body

/-! ## The pipeline's proof data -/

/-- Window `w`'s block of region 1, cut out of its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What step `t` reads. -/
def feed (c : Dev nD) (t : Fin cfg1.N) : Feed F := ⟨tile1 V c 0 t, tile1 V c 1 t, tile1 V c 2 t, tile1 V c 3 t, tile1 V c 4 t⟩

/-- The state after the first `n` steps. -/
def state (c : Dev nD) : ℕ → Vec F S16x2304 .f32 × Vec F S16x2304 .f32
  | 0 => start
  | n + 1 => if h : n < cfg1.N then (feed V c ⟨n, h⟩).step (grid1.coords ⟨n, h⟩) (state c n) else state c n

theorem state_succ (c : Dev nD) (t : Fin cfg1.N) :
    state V c (t.val + 1) = (feed V c t).step (grid1.coords t) (state V c t.val) := by
  simp only [state]; rw [dif_pos t.isLt]

/-- The scoped buffers the region does not use, and the generator's register: at anything. -/
def others (c : Dev nD) : sProp (Model F) :=
  iprop((∃ f, owns (c : Thread nD τ) (Memref.whole cc0_stg0_0) fullShare f)
    ∗ (∃ f, owns (c : Thread nD τ) (Memref.whole cc0_stg1_0) fullShare f)
    ∗ (∃ f, owns (c : Thread nD τ) (Memref.whole cc0_stg1_1) fullShare f)
    ∗ (∃ f, owns (c : Thread nD τ) (Memref.whole cc0_stg2_0) fullShare f)
    ∗ (∃ f, owns (c : Thread nD τ) (Memref.whole cc0_stg2_1) fullShare f)
    ∗ (∃ f, owns (c : Thread nD τ) (Memref.whole cc0_stg3_0) fullShare f)
    ∗ (∃ f, owns (c : Thread nD τ) (Memref.whole cc0_stg3_1) fullShare f)
    ∗ (∃ f, owns (c : Thread nD τ) (Memref.whole cc0_stg4_0) fullShare f)
    ∗ (∃ f, owns (c : Thread nD τ) (Memref.whole cc0_stg4_1) fullShare f)
    ∗ (∃ f, owns (c : Thread nD τ) (Memref.whole cc2_stg0_0) fullShare f)
    ∗ (∃ f, owns (c : Thread nD τ) (Memref.whole cc2_stg1_0) fullShare f)
    ∗ (∃ f, owns (c : Thread nD τ) (Memref.whole cc2_stg2_0) fullShare f)
    ∗ (∃ f, owns (c : Thread nD τ) (Memref.whole cc2_stg3_0) fullShare f)
    ∗ ∃ r, prngReg c r)

/-- Between the points the two scratch buffers hold the state; before the first, anything. -/
def carried (c : Dev nD) (n : ℕ) : sProp (Model F) :=
  iprop(∃ s : Vec F S16x2304 .f32 × Vec F S16x2304 .f32, ⌜n ≠ 0 → s = state V c n⌝
    ∗ owns (c : Thread nD τ) (Memref.whole cc1_scratch0) fullShare s.1
    ∗ owns (c : Thread nD τ) (Memref.whole cc1_scratch1) fullShare s.2
    ∗ others c)

theorem carried_enter (c : Dev nD) : Pipeline.ΦA spec1 c ⊢ (carried (F := F) V c 0) := by
  unfold Pipeline.ΦA; rw [scopedRest1_eq]
  simp only [← owns_whole]
  unfold carried others
  iintro ⟨⟨G0, G1, G2, G3, G4, G5, G6, G7, G8, ⟨%f, Hh⟩, ⟨%f', Hc⟩, G9, G10, G11, G12⟩, Hp⟩
  iexists (f, f')
  isplitr; · ipureintro; exact fun h => absurd rfl h
  isplitl [Hh]; · iexact Hh
  isplitl [Hc]; · iexact Hc
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  iexact Hp

theorem carried_leave (c : Dev nD) (n : ℕ) : carried (F := F) V c n ⊢ Pipeline.ΦA spec1 c := by
  unfold Pipeline.ΦA; rw [scopedRest1_eq]
  simp only [← owns_whole]
  unfold carried others
  iintro ⟨%s, -, Hh, Hc, G0, G1, G2, G3, G4, G5, G6, G7, G8, G9, G10, G11, G12, Hp⟩
  isplitr [Hp]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [Hh]; · iexists _; iexact Hh
    isplitl [Hc]; · iexists _; iexact Hc
    isplitl [G9]; · iexact G9
    isplitl [G10]; · iexact G10
    isplitl [G11]; · iexact G11
    iexact G12
  · iexact Hp

/-- Region 1's data: inputs keep their blocks, the result is the hidden state after the last step. -/
def recur (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => tile1 V c 4 t
    | ⟨5, _⟩ => (state V c 64).1
  Φ k := carried V c k.val
  q w := Pipeline.shareOf spec1 w
  owed _ := 0

theorem recur_A (c : Dev nD) (w : Fin cfg1.W) : (recur V c).A w = V c (Pipeline.arrRef spec1 w) := by dsimp only [recur]
theorem recur_after0 (c : Dev nD) (t : Fin cfg1.N) : (recur V c).after 0 t = tile1 V c 0 t := by dsimp only [recur]
theorem recur_after1 (c : Dev nD) (t : Fin cfg1.N) : (recur V c).after 1 t = tile1 V c 1 t := by dsimp only [recur]
theorem recur_after2 (c : Dev nD) (t : Fin cfg1.N) : (recur V c).after 2 t = tile1 V c 2 t := by dsimp only [recur]
theorem recur_after3 (c : Dev nD) (t : Fin cfg1.N) : (recur V c).after 3 t = tile1 V c 3 t := by dsimp only [recur]
theorem recur_after4 (c : Dev nD) (t : Fin cfg1.N) : (recur V c).after 4 t = tile1 V c 4 t := by dsimp only [recur]
theorem recur_after5 (c : Dev nD) (t : Fin cfg1.N) : (recur V c).after 5 t = (state V c 64).1 := by dsimp only [recur]

/-- An input's staging buffer holds its block when the body runs. -/
theorem recur_before0 (c : Dev nD) (t : Fin cfg1.N) (d) : (recur V c).before 0 t d = tile1 V c 0 t :=
  ((recur V c).before_in_eq_fetched 0 rfl (fun _ => rfl) (fun _ _ _ => rfl)
    (fun t => by rw [recur_after0]; unfold Dat.blockOf tile1; rw [recur_A]; try rfl) t d).trans (by unfold Dat.fetched Dat.blockOf tile1; rw [recur_A]; try rfl)
theorem recur_before1 (c : Dev nD) (t : Fin cfg1.N) (d) : (recur V c).before 1 t d = tile1 V c 1 t :=
  ((recur V c).before_in_eq_fetched 1 rfl (fun _ => rfl) (fun _ _ _ => rfl)
    (fun t => by rw [recur_after1]; unfold Dat.blockOf tile1; rw [recur_A]; try rfl) t d).trans (by unfold Dat.fetched Dat.blockOf tile1; rw [recur_A]; try rfl)
theorem recur_before2 (c : Dev nD) (t : Fin cfg1.N) (d) : (recur V c).before 2 t d = tile1 V c 2 t :=
  ((recur V c).before_in_eq_fetched 2 rfl (fun _ => rfl) (fun _ _ _ => rfl)
    (fun t => by rw [recur_after2]; unfold Dat.blockOf tile1; rw [recur_A]; try rfl) t d).trans (by unfold Dat.fetched Dat.blockOf tile1; rw [recur_A]; try rfl)
theorem recur_before3 (c : Dev nD) (t : Fin cfg1.N) (d) : (recur V c).before 3 t d = tile1 V c 3 t :=
  ((recur V c).before_in_eq_fetched 3 rfl (fun _ => rfl) (fun _ _ _ => rfl)
    (fun t => by rw [recur_after3]; unfold Dat.blockOf tile1; rw [recur_A]; try rfl) t d).trans (by unfold Dat.fetched Dat.blockOf tile1; rw [recur_A]; try rfl)
theorem recur_before4 (c : Dev nD) (t : Fin cfg1.N) (d) : (recur V c).before 4 t d = tile1 V c 4 t :=
  ((recur V c).before_in_eq_fetched 4 rfl (fun _ => rfl) (fun _ _ _ => rfl)
    (fun t => by rw [recur_after4]; unfold Dat.blockOf tile1; rw [recur_A]; try rfl) t d).trans (by unfold Dat.fetched Dat.blockOf tile1; rw [recur_A]; try rfl)

theorem left_early (c : Dev nD) (t : Fin cfg1.N) (h : ¬ isLast (grid1.coords t)) :
    (recur V c).leavesExact 5 t = iprop(∃ d, owns (c : Thread nD τ) (st1_5 t) fullShare ((recur V c).before 5 t d)) := by
  refine Dat.leavesExact_idle _ 5 t ?_ ?_
  · show (!decide (k1_cond2 (grid1.coords t) = 1#1)) = true
    simpa using h
  · have ht : t.val < 64 := Nat.lt_of_lt_of_eq t.isLt N_1
    have h' := mt (isLast_iff t).2 h
    refine Bool.eq_false_iff.2 fun hc => ?_
    have := (flush1_5 t).1 hc
    omega

theorem left_last (c : Dev nD) (t : Fin cfg1.N) (h : isLast (grid1.coords t)) :
    (recur V c).leavesExact 5 t = owns (c : Thread nD τ) (st1_5 t) fullShare ((recur V c).after 5 t) := by
  have hi : cfg1.idle 5 (cfg1.grid.coords t) = false := by
    show (!decide (k1_cond2 (grid1.coords t) = 1#1)) = false
    simpa using h
  unfold Dat.leavesExact; rw [hi]

/-- The body takes the region's data from before its point to after it. -/
theorem recur_point (c : Dev nD) (t : Fin cfg1.N) :
    iprop((recur V c).Φ t.castSucc ∗ (recur V c).owesAt () t.castSucc
        ∗ (∃ d, owns (c : Thread nD τ) (st1_0 t) fullShare ((recur V c).before 0 t d))
        ∗ (∃ d, owns (c : Thread nD τ) (st1_1 t) fullShare ((recur V c).before 1 t d))
        ∗ (∃ d, owns (c : Thread nD τ) (st1_2 t) fullShare ((recur V c).before 2 t d))
        ∗ (∃ d, owns (c : Thread nD τ) (st1_3 t) fullShare ((recur V c).before 3 t d))
        ∗ (∃ d, owns (c : Thread nD τ) (st1_4 t) fullShare ((recur V c).before 4 t d))
        ∗ (∃ d, owns (c : Thread nD τ) (st1_5 t) fullShare ((recur V c).before 5 t d)))
      ⊢ wp frame (wpE (defs₀ (F := F)) Variants.none c none) Set.univ (bodyAt1 t) fun _ =>
        iprop((recur V c).Φ t.succ ∗ (recur V c).owesAt () t.succ
          ∗ owns (c : Thread nD τ) (st1_0 t) fullShare ((recur V c).after 0 t)
          ∗ owns (c : Thread nD τ) (st1_1 t) fullShare ((recur V c).after 1 t)
          ∗ owns (c : Thread nD τ) (st1_2 t) fullShare ((recur V c).after 2 t)
          ∗ owns (c : Thread nD τ) (st1_3 t) fullShare ((recur V c).after 3 t)
          ∗ owns (c : Thread nD τ) (st1_4 t) fullShare ((recur V c).after 4 t)
          ∗ (recur V c).leavesExact 5 t) := by
  unfold bodyAt1
  simp only [recur_before0, recur_before1, recur_before2, recur_before3, recur_before4]
  rw [show (recur V c).Φ t.succ = carried V c (t.val + 1) from rfl, show (recur V c).Φ t.castSucc = carried V c t.val from rfl,
    show (recur V c).owesAt () t.succ = (recur V c).owesAt () t.castSucc from rfl,
    recur_after0, recur_after1, recur_after2, recur_after3, recur_after4]
  unfold carried
  iintro ⟨⟨%s, %hs, Hh, Hc, Hr⟩, Ho, ⟨%d0, H0⟩, ⟨%d1, H1⟩, ⟨%d2, H2⟩, ⟨%d3, H3⟩, ⟨%d4, H4⟩, ⟨%d5, H5⟩⟩
  by_cases hf : isFirst (grid1.coords t)
  · have h0 := (isFirst_iff t).1 hf
    have hl : ¬ isLast (grid1.coords t) := fun h => by have := (isLast_iff t).1 h; omega
    have e : (feed V c t).step (grid1.coords t) start = state V c (t.val + 1) := by rw [state_succ, h0]; rfl
    rw [left_early V c t hl, ← e]
    iapply (recur_first c Set.univ (grid1.coords t) _ _ _ _ _ _ _ _ _ _ _ _ _ _ _ _ (feed V c t) hf hl _ _)
    isplitl [H0 H1 H2 H3 H4]
    · isplitl [H0]; · iexact H0
      isplitl [H1]; · iexact H1
      isplitl [H2]; · iexact H2
      isplitl [H3]; · iexact H3
      iexact H4
    isplitl [H5]; · iexact H5
    isplitl [Hh]; · iexists _; iexact Hh
    isplitl [Hc]; · iexists _; iexact Hc
    iintro ⟨⟨H0, H1, H2, H3, H4⟩, H5, Hh, Hc⟩
    isplitl [Hh Hc Hr]
    · iexists _; isplitr
      swap
      · isplitl [Hh]; · iexact Hh
        isplitl [Hc]; · iexact Hc
        iexact Hr
      ipureintro; exact fun _ => rfl
    isplitl [Ho]; · iexact Ho
    isplitl [H0]; · iexact H0
    isplitl [H1]; · iexact H1
    isplitl [H2]; · iexact H2
    isplitl [H3]; · iexact H3
    isplitl [H4]; · iexact H4
    iexists _; iexact H5
  · have h0 := mt (isFirst_iff t).2 hf
    obtain rfl := hs h0
    have e := state_succ V c t
    by_cases hl : isLast (grid1.coords t)
    · have h63 := (isLast_iff t).1 hl
      have e64 : (state V c 64).1 = ((feed V c t).step (grid1.coords t) (state V c t.val)).1 := by rw [← e, h63]
      rw [left_last V c t hl, recur_after5, e, e64]
      iapply (recur_last c Set.univ (grid1.coords t) _ _ _ _ _ _ _ _ _ _ _ _ _ _ _ _ (feed V c t) hf hl (state V c t.val) _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [Hh]; · iexact Hh
      isplitl [Hc]; · iexact Hc
      iintro ⟨⟨H0, H1, H2, H3, H4⟩, H5, Hh, Hc⟩
      isplitl [Hh Hc Hr]
      · iexists _; isplitr
        swap
        · isplitl [Hh]; · iexact Hh
          isplitl [Hc]; · iexact Hc
          iexact Hr
        ipureintro; exact fun _ => rfl
      isplitl [Ho]; · iexact Ho
      isplitl [H0]; · iexact H0
      isplitl [H1]; · iexact H1
      isplitl [H2]; · iexact H2
      isplitl [H3]; · iexact H3
      isplitl [H4]; · iexact H4
      iexact H5
    · rw [left_early V c t hl, e]
      iapply (recur_mid c Set.univ (grid1.coords t) _ _ _ _ _ _ _ _ _ _ _ _ _ _ _ _ (feed V c t) hf hl _ (state V c t.val) _)
      isplitl [H0 H1 H2 H3 H4]
      · isplitl [H0]; · iexact H0
        isplitl [H1]; · iexact H1
        isplitl [H2]; · iexact H2
        isplitl [H3]; · iexact H3
        iexact H4
      isplitl [H5]; · iexact H5
      isplitl [Hh]; · iexact Hh
      isplitl [Hc]; · iexact Hc
      iintro ⟨⟨H0, H1, H2, H3, H4⟩, H5, Hh, Hc⟩
      isplitl [Hh Hc Hr]
      · iexists _; isplitr
        swap
        · isplitl [Hh]; · iexact Hh
          isplitl [Hc]; · iexact Hc
          iexact Hr
        ipureintro; exact fun _ => rfl
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's obligation of the recurrence body. -/
theorem recur_body (c : Dev nD) : BodyObligation (recur (F := F) V c) (defs₀ (F := F)) Variants.none () Set.univ := fun t => by
  rw [bigSep_W1, bigSep_W1, show defs₀ (F := F) .tc cfg1.body (cfg1.bodyArgs t (cfg1.slots t)) = bodyAt1 t by
    unfold defs₀; rw [Defs.onTc_tc]]
  exact triple_restated (recur_point V c t) rfl .rfl fun _ => .rfl

end Cert.Lstm

end
-- ==== Proof.Output.lean ====
/-
  Region 2: the output kernel. It reads the final hidden state of the sixteen rows, lays the upper eight rows beside
  the lower eight, multiplies by the output weights and adds the bias. Stated at any contents `V` of the buffers on
  entry and any float interpretation.
-/
module

public import proofs.«01_k».proof.Proof.Projection
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Value
public import Idealize.ShloMosaic.Lib.Pipeline.ValueKit.Basic
public import Idealize.ShloMosaic.Lib.Tactic

@[expose] public section

set_option maxRecDepth 16384

noncomputable section

namespace Cert.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (V : Bufs F)

/-- The upper eight rows of the final hidden state. -/
abbrev rowsTop : Rect S16x2304 := Rect.unit (s := S16x2304) ![0, 0] S8x2304.size inb_S16x2304_S8x2304_0_0
/-- The lower eight rows. -/
abbrev rowsBot : Rect S16x2304 := Rect.unit (s := S16x2304) ![8, 0] S8x2304.size inb_S16x2304_S8x2304_8_0

/-- What the output kernel computes of the final hidden state, its weights and its bias. -/
abbrev outVec (h : Vec F S16x2304 .f32) (w : Vec F S768x4608 .f32) (b : Vec F S1x768 .f32) : Vec F S8x768 .f32 :=
  k2_pay1 (View.ld h rowsTop) (View.ld h rowsBot) w b

set_option maxHeartbeats 1000000 in
/-- The output body: it leaves `outVec` of what it reads. -/
theorem fc_triple (c : Dev nD) (E : Set ℕ)
    (a0 : Memref sig .tc .vmem S16x2304 .f32) (h0 : a0.IsWhole) (a1 : Memref sig .tc .vmem S768x4608 .f32) (h1 : a1.IsWhole)
    (a2 : Memref sig .tc .vmem S1x768 .f32) (h2 : a2.IsWhole) (a3 : Memref sig .tc .vmem S8x768 .f32) (h3 : a3.IsWhole)
    (h : Vec F S16x2304 .f32) (w : Vec F S768x4608 .f32) (b : Vec F S1x768 .f32) (K : PUnit → sProp (Model F)) :
    iprop(owns (c : Thread nD τ) a0 fullShare h ∗ owns (c : Thread nD τ) a1 fullShare w ∗ owns (c : Thread nD τ) a2 fullShare b
        ∗ (∃ d, owns (c : Thread nD τ) a3 fullShare d)
        ∗ (iprop(owns (c : Thread nD τ) a0 fullShare h ∗ owns (c : Thread nD τ) a1 fullShare w ∗ owns (c : Thread nD τ) a2 fullShare b
            ∗ owns (c : Thread nD τ) a3 fullShare (outVec h w b)) -∗ K ⟨⟩))
      ⊢ wp frame (wpE (defs₀ (F := F)) Variants.none c none) E (cc2__fc_kernel a0 h0 a1 h1 a2 h2 a3 h3) K := by
  simp only [cc2__fc_kernel_eq_skeleton]; unfold cc2__fc_kernel_skel owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  refine (read_after_store _ _ _ off00 _ _).trans ?_
  exact congrArg₂ (k2_pay1 _ _) (load_all _ _ off00) (load_all _ _ off00)

/-! ## The pipeline's proof data -/

/-- Window `w`'s block of region 2, cut out of its array as the region finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 2's data: inputs keep their blocks, the output block is `outVec` of them. -/
def fc (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => outVec (tile2 V c 0 t) (tile2 V c 1 t) (tile2 V c 2 t)
  Φ _ := Pipeline.ΦA spec2 c
  q _ := fullShare
  owed _ := 0

theorem fc_A (c : Dev nD) (w : Fin cfg2.W) : (fc V c).A w = V c (Pipeline.arrRef spec2 w) := by dsimp only [fc]
theorem fc_after0 (c : Dev nD) (t : Fin cfg2.N) : (fc V c).after 0 t = tile2 V c 0 t := by dsimp only [fc]
theorem fc_after1 (c : Dev nD) (t : Fin cfg2.N) : (fc V c).after 1 t = tile2 V c 1 t := by dsimp only [fc]
theorem fc_after2 (c : Dev nD) (t : Fin cfg2.N) : (fc V c).after 2 t = tile2 V c 2 t := by dsimp only [fc]
theorem fc_after3 (c : Dev nD) (t : Fin cfg2.N) :
    (fc V c).after 3 t = outVec (tile2 V c 0 t) (tile2 V c 1 t) (tile2 V c 2 t) := by dsimp only [fc]

/-- An input's staging buffer holds its block when the body runs. -/
theorem fc_before0 (c : Dev nD) (t : Fin cfg2.N) (d) : (fc V c).before 0 t d = tile2 V c 0 t :=
  ((fc V c).before_in_eq_fetched 0 rfl (fun _ => rfl) (fun _ _ _ => rfl)
    (fun t => by rw [fc_after0]; unfold Dat.blockOf tile2; rw [fc_A]; try rfl) t d).trans (by unfold Dat.fetched Dat.blockOf tile2; rw [fc_A]; try rfl)
theorem fc_before1 (c : Dev nD) (t : Fin cfg2.N) (d) : (fc V c).before 1 t d = tile2 V c 1 t :=
  ((fc V c).before_in_eq_fetched 1 rfl (fun _ => rfl) (fun _ _ _ => rfl)
    (fun t => by rw [fc_after1]; unfold Dat.blockOf tile2; rw [fc_A]; try rfl) t d).trans (by unfold Dat.fetched Dat.blockOf tile2; rw [fc_A]; try rfl)
theorem fc_before2 (c : Dev nD) (t : Fin cfg2.N) (d) : (fc V c).before 2 t d = tile2 V c 2 t :=
  ((fc V c).before_in_eq_fetched 2 rfl (fun _ => rfl) (fun _ _ _ => rfl)
    (fun t => by rw [fc_after2]; unfold Dat.blockOf tile2; rw [fc_A]; try rfl) t d).trans (by unfold Dat.fetched Dat.blockOf tile2; rw [fc_A]; try rfl)

/-- The body takes the region's data from before its point to after it. -/
theorem fc_point (c : Dev nD) (t : Fin cfg2.N) :
    iprop((fc V c).Φ t.castSucc ∗ (fc V c).owesAt () t.castSucc
        ∗ (∃ d, owns (c : Thread nD τ) (st2_0 t) fullShare ((fc V c).before 0 t d))
        ∗ (∃ d, owns (c : Thread nD τ) (st2_1 t) fullShare ((fc V c).before 1 t d))
        ∗ (∃ d, owns (c : Thread nD τ) (st2_2 t) fullShare ((fc V c).before 2 t d))
        ∗ (∃ d, owns (c : Thread nD τ) (st2_3 t) fullShare ((fc V c).before 3 t d)))
      ⊢ wp frame (wpE (defs₀ (F := F)) Variants.none c none) Set.univ (bodyAt2 t) fun _ =>
        iprop((fc V c).Φ t.succ ∗ (fc V c).owesAt () t.succ
          ∗ owns (c : Thread nD τ) (st2_0 t) fullShare ((fc V c).after 0 t)
          ∗ owns (c : Thread nD τ) (st2_1 t) fullShare ((fc V c).after 1 t)
          ∗ owns (c : Thread nD τ) (st2_2 t) fullShare ((fc V c).after 2 t)
          ∗ owns (c : Thread nD τ) (st2_3 t) fullShare ((fc V c).after 3 t)) := by
  unfold bodyAt2
  simp only [fc_before0, fc_before1, fc_before2]
  rw [show (fc V c).Φ t.succ = (fc V c).Φ t.castSucc from rfl,
    show (fc V c).owesAt () t.succ = (fc V c).owesAt () t.castSucc from rfl, fc_after0, fc_after1, fc_after2, fc_after3]
  iintro ⟨HΦ, Ho, ⟨%d0, H0⟩, ⟨%d1, H1⟩, ⟨%d2, H2⟩, ⟨%d3, H3⟩⟩
  iapply (fc_triple c Set.univ _ _ _ _ _ _ _ _ (tile2 V c 0 t) (tile2 V c 1 t) (tile2 V c 2 t) _)
  isplitl [H0]; · iexact H0
  isplitl [H1]; · iexact H1
  isplitl [H2]; · iexact H2
  isplitl [H3]; · iexists _; iexact H3
  iintro HX
  isplitl [HΦ]; · iexact HΦ
  isplitl [Ho]; · iexact Ho
  iexact HX

/-- The pipeline's obligation of the output body. -/
theorem fc_body (c : Dev nD) : BodyObligation (fc (F := F) V c) (defs₀ (F := F)) Variants.none () Set.univ := fun t => by
  rw [bigSep_W2, bigSep_W2, show defs₀ (F := F) .tc cfg2.body (cfg2.bodyArgs t (cfg2.slots t)) = bodyAt2 t by
    unfold defs₀; rw [Defs.onTc_tc]]
  exact triple_restated (fc_point V c t) rfl .rfl fun _ => .rfl

end Cert.Lstm

end
-- ==== Proof.Run.lean ====
/-
  The whole run of the kernel's program: the host's preparation, the projection, a reshape, the recurrence and the
  output, as segments one after the other. Every weakly fair execution ends with the buffers that outlive the regions
  at `W5`, a fold of what each segment leaves, and with every semaphore counter at zero. Any float interpretation.
-/
module

public import proofs.«01_k».proof.Proof.Recurrence
public import proofs.«01_k».proof.Proof.Output
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ) (ρ : Dev nD → PrngReg)

/-! ## The buffers' contents between the segments -/

/-- A valuation read at the TensorCore's references. -/
abbrev bufs (W : Dev nD → Valuation τ sig (Elt F)) : Bufs F := fun c b => W c b

/-- At the launch. -/
abbrev W0 : Dev nD → Valuation τ sig (Elt F) := fun c b => m ((c : Dev nD), b)
/-- After the host's preparation: the projection is entered. -/
abbrev W1 : Dev nD → Valuation τ sig (Elt F) := fun c => StableHlo.after hostOps0 (W0 m c)
/-- After the projection. -/
def W2 : Dev nD → Valuation τ sig (Elt F) := fun c =>
  Pipeline.withArrays spec0 c (W1 m c) fun w => (proj (bufs (W1 m)) c).arrAt w cfg0.N
/-- After the reshape: the recurrence is entered. -/
abbrev W3 : Dev nD → Valuation τ sig (Elt F) := fun c => StableHlo.after hostOps1 (W2 m c)
/-- After the recurrence: only the hidden state's buffer has changed. -/
def W4 : Dev nD → Valuation τ sig (Elt F) := fun c =>
  Function.update (W3 m c) (Proc.devRef .tc main_call0_v22) ((recur (bufs (W3 m)) c).arrAt 5 cfg1.N)
/-- After the output kernel. -/
def W5 : Dev nD → Valuation τ sig (Elt F) := fun c =>
  Pipeline.withArrays spec2 c (W4 m c) fun w => (fc (bufs (W4 m)) c).arrAt w cfg2.N

theorem W2_arr (c : Dev nD) (w : Fin cfg0.W) :
    W2 m c (Proc.devRef .tc (Pipeline.arrRef spec0 w)) = (proj (bufs (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W5_arr (c : Dev nD) (w : Fin cfg2.W) :
    W5 m c (Proc.devRef .tc (Pipeline.arrRef spec2 w)) = (fc (bufs (W4 m)) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W4_self (c : Dev nD) :
    W4 m c (Proc.devRef .tc main_call0_v22) = (recur (bufs (W3 m)) c).arrAt 5 cfg1.N := by
  unfold W4; exact Function.update_self _ _ _
theorem W4_of_ne (c : Dev nD) (b : Ref sig .tc) (hb : b ≠ main_call0_v22) :
    W4 m c (Proc.devRef .tc b) = W3 m c (Proc.devRef .tc b) := by
  unfold W4; exact Function.update_of_ne (fun h => hb (Proc.devRef_injective _ h)) _ _

/-- What no output window of the projection is on stays as it was. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((proj (bufs (W1 m)) c).arrAt_in w (h w rfl) _).trans (proj_A _ c w))
  · exact W2_of_ne m c r fun w e => hw ⟨w, e⟩
/-- What the output kernel does not write stays as it was. -/
theorem W5_of (c : Dev nD) (r : Ref sig .tc) (h : ∀ w : Fin cfg2.W, Pipeline.arrRef spec2 w = r → (cfg2.win w).isOut = false) :
    W5 m c (Proc.devRef .tc r) = W4 m c (Proc.devRef .tc r) := by
  by_cases hw : ∃ w : Fin cfg2.W, Pipeline.arrRef spec2 w = r
  · obtain ⟨w, rfl⟩ := hw
    exact (W5_arr m c w).trans (((fc (bufs (W4 m)) c).arrAt_in w (h w rfl) _).trans (fc_A _ c w))
  · exact W5_of_ne m c r fun w e => hw ⟨w, e⟩
theorem W1_of (c : Dev nD) (r : Ref sig .tc) (h : r ∉ hostOps0_W) : W1 m c (Proc.devRef .tc r) = m ((c : Thread nD τ).loc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- The arguments. -/
abbrev args : List (Ref sig .tc) :=
  [main_arg0, main_arg1, main_arg2, main_arg3, main_arg4, main_arg5, main_arg6, main_arg7, main_arg8, main_arg9]

theorem args_host0 : ∀ a ∈ args, a ∉ hostOps0_W := ListAll.forall_mem_of_all_decide (by decide +kernel)
theorem args_host1 : ∀ a ∈ args, a ∉ hostOps1_W := ListAll.forall_mem_of_all_decide (by decide +kernel)
theorem args_in0 : ∀ a ∈ args, ∀ w : Fin cfg0.W, Pipeline.arrRef spec0 w = a → (cfg0.win w).isOut = false :=
  ListAll.forall_mem_of_all_decide (by decide +kernel)
theorem args_in1 : ∀ a ∈ args, a ≠ main_call0_v22 := ListAll.forall_mem_of_all_decide (by decide +kernel)
theorem args_in2 : ∀ a ∈ args, ∀ w : Fin cfg2.W, Pipeline.arrRef spec2 w = a → (cfg2.win w).isOut = false :=
  ListAll.forall_mem_of_all_decide (by decide +kernel)

/-- The arguments are never written. -/
theorem W4_args (c : Dev nD) (a) (h : a ∈ args) : W4 m c (Proc.devRef .tc a) = m ((c : Thread nD τ).loc a) :=
  (W4_of_ne m c a (args_in1 a h)).trans <| (W3_of m c a (args_host1 a h)).trans <|
    (W2_of m c a (args_in0 a h)).trans (W1_of m c a (args_host0 a h))
theorem W5_args (c : Dev nD) (a) (h : a ∈ args) : W5 m c (Proc.devRef .tc a) = m ((c : Thread nD τ).loc a) :=
  (W5_of m c a (args_in2 a h)).trans (W4_args m c a h)

/-! ## The regions' data, and what rides along -/

/-- The three regions' proof data, each at the contents its region is entered with. -/
def pdats : (p : Fin 3) → (c : Dev nD) → Dat τ (Elt F) Unit ℕ (UR sig nD τ) ℕ (Pipeline.pin (pcfgs (F := F)) adm p) c
  | ⟨0, _⟩ => fun c => proj (bufs (W1 m)) c
  | ⟨1, _⟩ => fun c => recur (bufs (W3 m)) c
  | ⟨2, _⟩ => fun c => fc (bufs (W4 m)) c

/-- No core owes another anything. -/
abbrev noLev : GSem nD τ sig → Finset Unit := fun _ => ∅
abbrev lev0 : GSem nD τ sig → Unit → ℕ := fun _ _ => 0

/-- What every segment carries beside the buffers: the generator's register, and owing nothing. -/
abbrev along (c : Dev nD) : sProp (Model F) :=
  iprop((∃ r, prngReg c r) ∗ ∃ W, owes (c : Thread nD τ) (0 : CellTallies nD τ sig Unit) W)

/-- The state between two segments: the buffers at `W`, and what rides along. -/
abbrev between (W : Dev nD → Valuation τ sig (Elt F)) (c : Dev nD) : sProp (Model F) :=
  iprop(StableHlo.held (c : Thread nD τ) (Pipeline.ucRefs τ sig) (W c) ∗ along c)

/-- A stretch of host operations as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W along

/-! ## The regions as segments -/

set_option backward.isDefEq.respectTransparency.types false in
/-- Region 0, from the buffers at `W1` to the buffers at `W2`. -/
def reg0 : Pipeline.RegionSeg (pcfgs (F := F)) adm (pdats m) () defs₀ Variants.none noLev lev0 0 where
  win := launch0.win.to₀
  block_pos := block_pos0
  stage_whole := stage_whole0
  K := PEmpty
  osem k := k.elim
  ho := Pipeline.OwnSemFacts.none _
  hbody c := (proj_body (bufs (W1 m)) c).loose
  hwaits := Pipeline.hwaits_of_owed_zero _ _ _ _ noLev lev0 0 fun _ _ => rfl
  pre c := between (W1 m) c
  post c := between (W2 m) c
  X c := iprop(∃ r, prngReg c r)
  Y c := iprop(∃ r, prngReg c r)
  Z c := Pipeline.unscopedRest (Ix := Unit) (Name := ℕ) (U := UR sig nD τ) (Lvl := ℕ) spec0 c (bufs (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (bufs (W1 m) c) (proj_A (bufs (W1 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (bufs (W1 m) c) (bufs (W2 m) c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's arrays end at `W4`: the inputs as they were, the output as the pipeline leaves it. -/
theorem recur_arr (c : Dev nD) (w : Fin cfg1.W) :
    (recur (bufs (W3 m)) c).arrAt w cfg1.N = W4 m c (Proc.devRef .tc (Pipeline.arrRef spec1 w)) := by
  have hin : ∀ w : Fin cfg1.W, w ≠ 5 → (cfg1.win w).isOut = false ∧ Pipeline.arrRef spec1 w ≠ main_call0_v22 := by decide +kernel
  by_cases h : w = 5
  · subst h; exact (W4_self m c).symm
  · obtain ⟨h1, h2⟩ := hin w h
    exact ((recur (bufs (W3 m)) c).arrAt_in w h1 _).trans ((recur_A _ c w).trans (W4_of_ne m c _ h2).symm)

theorem recur_rest (c : Dev nD) (b : Ref sig .tc) (hb : b ∉ Finset.univ.image (Pipeline.arrRef spec1)) :
    W4 m c (Proc.devRef .tc b) = W3 m c (Proc.devRef .tc b) :=
  W4_of_ne m c b fun e => hb (Finset.mem_image.mpr ⟨(5 : Fin 6), Finset.mem_univ _, e ▸ rfl⟩)

set_option backward.isDefEq.respectTransparency.types false in
/-- Region 1, from the buffers at `W3` to the buffers at `W4`. -/
def reg1 : Pipeline.RegionSeg (pcfgs (F := F)) adm (pdats m) () defs₀ Variants.none noLev lev0 1 where
  win := launch₀1.win
  block_pos := block_pos1
  stage_whole := stage_whole1
  K := PEmpty
  osem k := k.elim
  ho := Pipeline.OwnSemFacts.none _
  hbody c := (recur_body (bufs (W3 m)) c).loose
  hwaits := Pipeline.hwaits_of_owed_zero _ _ _ _ noLev lev0 1 fun _ _ => rfl
  pre c := between (W3 m) c
  post c := between (W4 m) c
  X c := iprop(∃ r, prngReg c r)
  Y c := iprop(∃ r, prngReg c r)
  Z c := Pipeline.unscopedRest (Ix := Unit) (Name := ℕ) (U := UR sig nD τ) (Lvl := ℕ) spec1 c (bufs (W3 m) c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (bufs (W3 m) c) (recur_A (bufs (W3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = carried (bufs (W3 m)) c 0 from rfl]
    iintro ⟨Hp, -, Hr⟩
    iapply (carried_enter (bufs (W3 m)) c)
    unfold Pipeline.ΦA
    isplitl [Hr]; · iexact Hr
    iexact Hp
  hout c := by
    rw [Pipeline.ownSems0_none]
    rw [show (pdats m 1 c).Φ (Fin.last _) = carried (bufs (W3 m)) c cfg1.N from rfl]
    refine (carried_leave (bufs (W3 m)) c _).trans ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (bufs (W3 m) c) (bufs (W4 m) c) ((pdats m 1 c).arrAt · cfg1.N) (recur_arr m c) (recur_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the end: the buffers at `W5`, the generator's register at something. -/
abbrev ended (c : Dev nD) : sProp (Model F) :=
  iprop(StableHlo.held (c : Thread nD τ) (Pipeline.ucRefs τ sig) (W5 m c) ∗ ∃ r, prngReg c r)

set_option backward.isDefEq.respectTransparency.types false in
/-- Region 2, from the buffers at `W4` to the buffers at `W5`. -/
def reg2 : Pipeline.RegionSeg (pcfgs (F := F)) adm (pdats m) () defs₀ Variants.none noLev lev0 2 where
  win := launch2.win.to₀
  block_pos := block_pos2
  stage_whole := stage_whole2
  K := PEmpty
  osem k := k.elim
  ho := Pipeline.OwnSemFacts.none _
  hbody c := (fc_body (bufs (W4 m)) c).loose
  hwaits := Pipeline.hwaits_of_owed_zero _ _ _ _ noLev lev0 2 fun _ _ => rfl
  pre c := between (W4 m) c
  post c := iprop(ended m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (bufs (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (bufs (W4 m) c) (fc_A (bufs (W4 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (bufs (W4 m) c) (bufs (W5 m) c) ((pdats m 2 c).arrAt · cfg2.N) (fun w => (W5_arr m c w).symm)
      (fun b hb => W5_of_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's segments in order. -/
abbrev segments : List (Pipeline.Seg (pcfgs (F := F)) adm (pdats m) () defs₀ Variants.none noLev lev0) :=
  [ .host (hostSeg hostOps0 hostOps0_sub hostOps0_fresh (W0 m)),
    .region (reg0 m),
    .host (hostSeg hostOps1 hostOps1_sub hostOps1_fresh (W2 m)),
    .region (reg1 m),
    .region (reg2 m) ]

theorem main_segments (c : Dev nD) : main (F := F) c = Pipeline.Seg.run (segments m) := (main_chain c).trans (by chain_rfl)

set_option backward.isDefEq.respectTransparency.types false in
/-- Every weakly fair execution from zero counters ends, without a fault, with the buffers at `W5` and the counters at
    zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W5 m c b) ∧ r.2.sem = fun _ => 0) :=
  Pipeline.θ_run_regions_kit_sems (pcfgs (F := F)) adm (pdats m) () cellOf_inj emb₁ defs₀ Variants.none noLev lev0 m ρ main (segments m)
    (fun c Q => by rw [main_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Model F))
            ⊢ BI.own (emb₁ (initOf (Pipeline.cells cfgs cellOf_inj) (Pipeline.launchToks cfgs cellOf_inj))) from .rfl)
        iexact Hu
      iapply (show (BI.emp : sProp (Model F)) ⊢ bigSep Finset.univ (fun _ : Dev nD => (BI.emp : sProp (Model F))) from by rw [BI.bigSep_emp_const])
      iempintro)
    (T₀ := between (W0 m)) (Tₙ := ended m)
    (hch := ⟨fun _ => .rfl, fun _ => .rfl, fun _ => .rfl, fun _ => .rfl, fun _ => .rfl, fun _ => .rfl⟩)
    (hinit := by
      refine Pipeline.initEach noLev lev0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun _ h hz => ⟨h, funext fun g => hz g (.inr (regions_no_unscoped g.2))⟩)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The arguments of a final state are those of the launch. -/
def ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)

theorem args_kept {s : MemSt nD τ sig (Elt F)} {c : Dev nD} (h : ∀ b ∈ Pipeline.ucRefs τ sig, s.mem (((c : Thread nD τ)).1, b) = W5 m c b) :
    ArgsKept m s c :=
  ⟨(h _ (mem_uc main_arg0 (by decide))).trans (W5_args m c main_arg0 (by decide)),
   (h _ (mem_uc main_arg1 (by decide))).trans (W5_args m c main_arg1 (by decide)),
   (h _ (mem_uc main_arg2 (by decide))).trans (W5_args m c main_arg2 (by decide)),
   (h _ (mem_uc main_arg3 (by decide))).trans (W5_args m c main_arg3 (by decide)),
   (h _ (mem_uc main_arg4 (by decide))).trans (W5_args m c main_arg4 (by decide)),
   (h _ (mem_uc main_arg5 (by decide))).trans (W5_args m c main_arg5 (by decide)),
   (h _ (mem_uc main_arg6 (by decide))).trans (W5_args m c main_arg6 (by decide)),
   (h _ (mem_uc main_arg7 (by decide))).trans (W5_args m c main_arg7 (by decide)),
   (h _ (mem_uc main_arg8 (by decide))).trans (W5_args m c main_arg8 (by decide)),
   (h _ (mem_uc main_arg9 (by decide))).trans (W5_args m c main_arg9 (by decide))⟩

end Cert.Lstm

end
-- ==== Proof.Stretches.lean ====
/-
  The reference's operations as lists: those before its first loop, each loop's condition and body, those between the loops
  and those after the second; and the program as the chain of these lists.
-/
module

public import proofs.«01_k».proof.Proof.Gen.ReferenceIdeal
public import Idealize.ShloMosaic.Lib.StableHlo.RunLoop
public import Idealize.ShloMosaic.Lib.Pipeline.Regions

@[expose] public section

set_option Elab.async false

noncomputable section

namespace Cert.Reference

open Idealize.ShloMosaic Idealize.SL.Sem Cert.ReferenceIdeal Cert.ReferenceIdeal.Gen

variable {F : FTy → Type} [FloatOps F]

/-- The operations before the first loop. -/
abbrev opsPre : List (HloOp τ sig (Elt F)) :=
  [ StableHlo.nullary main_v0 (iotaInDim S64 32 0),
    StableHlo.nullary main_c (constantI S_ 32 1#32),
    StableHlo.unary main_c main_v1 (broadcastInDim S8 ![] bcast_S_S8 : (⟨S_, .i32⟩ : BufTy).Contents (Elt F) → (⟨S8, .i32⟩ : BufTy).Contents (Elt F)),
    StableHlo.binary main_arg2 main_v1 main_v2 (subi : (⟨S8, .i32⟩ : BufTy).Contents (Elt F) → (⟨S8, .i32⟩ : BufTy).Contents (Elt F) → (⟨S8, .i32⟩ : BufTy).Contents (Elt F)),
    StableHlo.unary main_v0 main_v3 (broadcastInDim S1x64 ![1] bcast_S64_S1x64_1 : (⟨S64, .i32⟩ : BufTy).Contents (Elt F) → (⟨S1x64, .i32⟩ : BufTy).Contents (Elt F)),
    StableHlo.unary main_v2 main_v4 (broadcastInDim S8x1 ![0] bcast_S8_S8x1_0 : (⟨S8, .i32⟩ : BufTy).Contents (Elt F) → (⟨S8x1, .i32⟩ : BufTy).Contents (Elt F)),
    StableHlo.unary main_v3 main_v5 (broadcastInDim S8x64 ![0, 1] bcast_S1x64_S8x64_0_1 : (⟨S1x64, .i32⟩ : BufTy).Contents (Elt F) → (⟨S8x64, .i32⟩ : BufTy).Contents (Elt F)),
    StableHlo.unary main_v4 main_v6 (broadcastInDim S8x64 ![0, 1] bcast_S8x1_S8x64_0_1 : (⟨S8x1, .i32⟩ : BufTy).Contents (Elt F) → (⟨S8x64, .i32⟩ : BufTy).Contents (Elt F)),
    StableHlo.binary main_v5 main_v6 main_v7 (cmpi .slt : (⟨S8x64, .i32⟩ : BufTy).Contents (Elt F) → (⟨S8x64, .i32⟩ : BufTy).Contents (Elt F) → (⟨S8x64, .i1⟩ : BufTy).Contents (Elt F)),
    StableHlo.unary main_arg0 main_v8 ((extractStridedSlice S8x63x2304 ![0, 1, 0] · slices_S8x64x2304_S8x63x2304_0_1_0) : (⟨S8x64x2304, .f32⟩ : BufTy).Contents (Elt F) → (⟨S8x63x2304, .f32⟩ : BufTy).Contents (Elt F)),
    StableHlo.nullary main_cst (constant S_ .f32 0x00000000#32),
    StableHlo.unary main_cst main_v9 (broadcastInDim S8x1x2304 ![] bcast_S_S8x1x2304 : (⟨S_, .f32⟩ : BufTy).Contents (Elt F) → (⟨S8x1x2304, .f32⟩ : BufTy).Contents (Elt F)),
    StableHlo.binary main_v8 main_v9 main_v10 ((fun a b => concatenate S8x64x2304 1 [⟨S8x63x2304, a⟩, ⟨S8x1x2304, b⟩] concatenates_S8x63x2304_S8x1x2304_S8x64x2304_d1) : (⟨S8x63x2304, .f32⟩ : BufTy).Contents (Elt F) → (⟨S8x1x2304, .f32⟩ : BufTy).Contents (Elt F) → (⟨S8x64x2304, .f32⟩ : BufTy).Contents (Elt F)),
    StableHlo.unary main_v7 main_v11 (broadcastInDim S8x64x1 ![0, 1] bcast_S8x64_S8x64x1_0_1 : (⟨S8x64, .i1⟩ : BufTy).Contents (Elt F) → (⟨S8x64x1, .i1⟩ : BufTy).Contents (Elt F)),
    StableHlo.nullary main_cst_0 (constant S_ .f32 0x00000000#32),
    StableHlo.TRef.unary (.of main_cst_0 : StableHlo.TRef sig ⟨S_, .f32⟩) (.of main_call0_v0 : StableHlo.TRef sig ⟨S_, .f32⟩) id,
    StableHlo.TRef.unary (.of main_v11 : StableHlo.TRef sig ⟨S8x64x1, .i1⟩) (.of main_call0_v1 : StableHlo.TRef sig ⟨S8x64x2304, .i1⟩) (broadcastInDim S8x64x2304 ![0, 1, 2] bcast_S8x64x1_S8x64x2304_0_1_2),
    StableHlo.TRef.unary (.of main_call0_v0 : StableHlo.TRef sig ⟨S_, .f32⟩) (.of main_call0_v2 : StableHlo.TRef sig ⟨S8x64x2304, .f32⟩) (broadcastInDim S8x64x2304 ![] bcast_S_S8x64x2304),
    StableHlo.TRef.ternary (.of main_call0_v1 : StableHlo.TRef sig ⟨S8x64x2304, .i1⟩) (.of main_v10 : StableHlo.TRef sig ⟨S8x64x2304, .f32⟩) (.of main_call0_v2 : StableHlo.TRef sig ⟨S8x64x2304, .f32⟩) (.of main_v12 : StableHlo.TRef sig ⟨S8x64x2304, .f32⟩) select,
    StableHlo.nullary main_c_1 (constantI S_ 32 1#32),
    StableHlo.unary main_c_1 main_v13 (broadcastInDim S8 ![] bcast_S_S8 : (⟨S_, .i32⟩ : BufTy).Contents (Elt F) → (⟨S8, .i32⟩ : BufTy).Contents (Elt F)),
    StableHlo.binary main_arg2 main_v13 main_v14 (cmpi .sgt : (⟨S8, .i32⟩ : BufTy).Contents (Elt F) → (⟨S8, .i32⟩ : BufTy).Contents (Elt F) → (⟨S8, .i1⟩ : BufTy).Contents (Elt F)),
    StableHlo.nullary main_c_2 (constantI S_ 32 1#32),
    StableHlo.TRef.unary (.of main_c_2 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S8, .i32⟩) (broadcastInDim S8 ![] bcast_S_S8),
    StableHlo.TRef.ternary (.of main_v14 : StableHlo.TRef sig ⟨S8, .i1⟩) (.of main_v2 : StableHlo.TRef sig ⟨S8, .i32⟩) (.of main_call1_v1 : StableHlo.TRef sig ⟨S8, .i32⟩) (.of main_v15 : StableHlo.TRef sig ⟨S8, .i32⟩) select,
    StableHlo.nullary main_cst_3 (constant S_ .f32 0x00000000#32),
    StableHlo.unary main_cst_3 main_v16 (broadcastInDim S8x2304 ![] bcast_S_S8x2304 : (⟨S_, .f32⟩ : BufTy).Contents (Elt F) → (⟨S8x2304, .f32⟩ : BufTy).Contents (Elt F)),
    StableHlo.nullary main_cst_4 (constant S_ .f32 0x00000000#32),
    StableHlo.unary main_cst_4 main_v17 (broadcastInDim S8x2304 ![] bcast_S_S8x2304 : (⟨S_, .f32⟩ : BufTy).Contents (Elt F) → (⟨S8x2304, .f32⟩ : BufTy).Contents (Elt F)),
    StableHlo.unary main_v12 main_v18 ((transpose S64x8x2304 [1, 0, 2] · transposes_S8x64x2304_S64x8x2304_1_0_2) : (⟨S8x64x2304, .f32⟩ : BufTy).Contents (Elt F) → (⟨S64x8x2304, .f32⟩ : BufTy).Contents (Elt F)),
    StableHlo.nullary main_v19 (iotaInDim S64 32 0),
    StableHlo.nullary main_c_5 (constantI S_ 32 0#32),
    StableHlo.unary main_v18 main_v20_0 id,
    StableHlo.unary main_v19 main_v20_1 id,
    StableHlo.unary main_arg4 main_v20_2 id,
    StableHlo.unary main_arg5 main_v20_3 id,
    StableHlo.unary main_arg6 main_v20_4 id,
    StableHlo.unary main_arg7 main_v20_5 id,
    StableHlo.unary main_v15 main_v20_6 id,
    StableHlo.unary main_c_5 main_v20_7 id,
    StableHlo.unary main_v16 main_v20_8 id,
    StableHlo.unary main_v17 main_v20_9 id ]

/-- The operations of the first loop's condition. -/
abbrev condL : List (HloOp τ sig (Elt F)) :=
  [ StableHlo.nullary main_while0c_c_23 (constantI S_ 32 64#32),
    StableHlo.binary main_v20_7 main_while0c_c_23 main_while0c_v51 (cmpi .slt : (⟨S_, .i32⟩ : BufTy).Contents (Elt F) → (⟨S_, .i32⟩ : BufTy).Contents (Elt F) → (⟨S_, .i1⟩ : BufTy).Contents (Elt F)) ]

/-- The operations of the first loop's body. -/
abbrev bodyL : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.unaryIndexed (.of main_v20_0 : StableHlo.TRef sig ⟨S64x8x2304, .f32⟩) ![(.of main_v20_7 : StableHlo.TRef sig ⟨S_, .i32⟩), (.of main_while0b_call2_c : StableHlo.TRef sig ⟨S_, .i32⟩), (.of main_while0b_call2_c_0 : StableHlo.TRef sig ⟨S_, .i32⟩)] (.of main_while0b_call2_v0 : StableHlo.TRef sig ⟨S1x8x2304, .f32⟩) (fun x i => Host.dynamicSlice S1x8x2304 x (fun k => (i k (Shape.Idx.first h_S_)).toInt) sliceFits_S64x8x2304_S1x8x2304),
    StableHlo.TRef.reshape (.of main_while0b_call2_v0 : StableHlo.TRef sig ⟨S1x8x2304, .f32⟩) (.of main_while0b_v51 : StableHlo.TRef sig ⟨S8x2304, .f32⟩) (rfl : (.f32 : EltTy) = .f32) shapeCasts_S1x8x2304_S8x2304,
    StableHlo.TRef.unaryIndexed (.of main_v20_1 : StableHlo.TRef sig ⟨S64, .i32⟩) ![(.of main_v20_7 : StableHlo.TRef sig ⟨S_, .i32⟩)] (.of main_while0b_call3_v0 : StableHlo.TRef sig ⟨S1, .i32⟩) (fun x i => Host.dynamicSlice S1 x (fun k => (i k (Shape.Idx.first h_S_)).toInt) sliceFits_S64_S1),
    StableHlo.TRef.reshape (.of main_while0b_call3_v0 : StableHlo.TRef sig ⟨S1, .i32⟩) (.of main_while0b_v52 : StableHlo.TRef sig ⟨S_, .i32⟩) (rfl : (.i32 : EltTy) = .i32) shapeCasts_S1_S_,
    StableHlo.unary main_v20_2 main_while0b_v53 ((transpose S2304x9216 [1, 0] · transposes_S9216x2304_S2304x9216_1_0) : (⟨S9216x2304, .f32⟩ : BufTy).Contents (Elt F) → (⟨S2304x9216, .f32⟩ : BufTy).Contents (Elt F)),
    StableHlo.binary main_while0b_v51 main_while0b_v53 main_while0b_v54 ((fun l r => Host.dotGeneral dot_S8x2304_S2304x9216_S8x9216_1_0_0_1_n_n none l r) : (⟨S8x2304, .f32⟩ : BufTy).Contents (Elt F) → (⟨S2304x9216, .f32⟩ : BufTy).Contents (Elt F) → (⟨S8x9216, .f32⟩ : BufTy).Contents (Elt F)),
    StableHlo.unary main_v20_3 main_while0b_v55 ((transpose S2304x9216 [1, 0] · transposes_S9216x2304_S2304x9216_1_0) : (⟨S9216x2304, .f32⟩ : BufTy).Contents (Elt F) → (⟨S2304x9216, .f32⟩ : BufTy).Contents (Elt F)),
    StableHlo.binary main_v20_8 main_while0b_v55 main_while0b_v56 ((fun l r => Host.dotGeneral dot_S8x2304_S2304x9216_S8x9216_1_0_0_1_n_n none l r) : (⟨S8x2304, .f32⟩ : BufTy).Contents (Elt F) → (⟨S2304x9216, .f32⟩ : BufTy).Contents (Elt F) → (⟨S8x9216, .f32⟩ : BufTy).Contents (Elt F)),
    StableHlo.binary main_while0b_v54 main_while0b_v56 main_while0b_v57 (addf : (⟨S8x9216, .f32⟩ : BufTy).Contents (Elt F) → (⟨S8x9216, .f32⟩ : BufTy).Contents (Elt F) → (⟨S8x9216, .f32⟩ : BufTy).Contents (Elt F)),
    StableHlo.unary main_v20_4 main_while0b_v58 (broadcastInDim S1x9216 ![1] bcast_S9216_S1x9216_1 : (⟨S9216, .f32⟩ : BufTy).Contents (Elt F) → (⟨S1x9216, .f32⟩ : BufTy).Contents (Elt F)),
    StableHlo.unary main_while0b_v58 main_while0b_v59 (broadcastInDim S8x9216 ![0, 1] bcast_S1x9216_S8x9216_0_1 : (⟨S1x9216, .f32⟩ : BufTy).Contents (Elt F) → (⟨S8x9216, .f32⟩ : BufTy).Contents (Elt F)),
    StableHlo.binary main_while0b_v57 main_while0b_v59 main_while0b_v60 (addf : (⟨S8x9216, .f32⟩ : BufTy).Contents (Elt F) → (⟨S8x9216, .f32⟩ : BufTy).Contents (Elt F) → (⟨S8x9216, .f32⟩ : BufTy).Contents (Elt F)),
    StableHlo.unary main_v20_5 main_while0b_v61 (broadcastInDim S1x9216 ![1] bcast_S9216_S1x9216_1 : (⟨S9216, .f32⟩ : BufTy).Contents (Elt F) → (⟨S1x9216, .f32⟩ : BufTy).Contents (Elt F)),
    StableHlo.unary main_while0b_v61 main_while0b_v62 (broadcastInDim S8x9216 ![0, 1] bcast_S1x9216_S8x9216_0_1 : (⟨S1x9216, .f32⟩ : BufTy).Contents (Elt F) → (⟨S8x9216, .f32⟩ : BufTy).Contents (Elt F)),
    StableHlo.binary main_while0b_v60 main_while0b_v62 main_while0b_v63 (addf : (⟨S8x9216, .f32⟩ : BufTy).Contents (Elt F) → (⟨S8x9216, .f32⟩ : BufTy).Contents (Elt F) → (⟨S8x9216, .f32⟩ : BufTy).Contents (Elt F)),
    StableHlo.unary main_while0b_v63 main_while0b_v64 ((extractStridedSlice S8x2304 ![0, 0] · slices_S8x9216_S8x2304_0_0) : (⟨S8x9216, .f32⟩ : BufTy).Contents (Elt F) → (⟨S8x2304, .f32⟩ : BufTy).Contents (Elt F)),
    StableHlo.unary main_while0b_v63 main_while0b_v65 ((extractStridedSlice S8x2304 ![0, 2304] · slices_S8x9216_S8x2304_0_2304) : (⟨S8x9216, .f32⟩ : BufTy).Contents (Elt F) → (⟨S8x2304, .f32⟩ : BufTy).Contents (Elt F)),
    StableHlo.unary main_while0b_v63 main_while0b_v66 ((extractStridedSlice S8x2304 ![0, 4608] · slices_S8x9216_S8x2304_0_4608) : (⟨S8x9216, .f32⟩ : BufTy).Contents (Elt F) → (⟨S8x2304, .f32⟩ : BufTy).Contents (Elt F)),
    StableHlo.unary main_while0b_v63 main_while0b_v67 ((extractStridedSlice S8x2304 ![0, 6912] · slices_S8x9216_S8x2304_0_6912) : (⟨S8x9216, .f32⟩ : BufTy).Contents (Elt F) → (⟨S8x2304, .f32⟩ : BufTy).Contents (Elt F)),
    StableHlo.unary main_while0b_v64 main_while0b_v68 (Host.negf : (⟨S8x2304, .f32⟩ : BufTy).Contents (Elt F) → (⟨S8x2304, .f32⟩ : BufTy).Contents (Elt F)),
    StableHlo.unary main_while0b_v68 main_while0b_v69 (Host.exp : (⟨S8x2304, .f32⟩ : BufTy).Contents (Elt F) → (⟨S8x2304, .f32⟩ : BufTy).Contents (Elt F)),
    StableHlo.nullary main_while0b_cst_23 (constant S_ .f32 0x3F800000#32),
    StableHlo.unary main_while0b_cst_23 main_while0b_v70 (broadcastInDim S8x2304 ![] bcast_S_S8x2304 : (⟨S_, .f32⟩ : BufTy).Contents (Elt F) → (⟨S8x2304, .f32⟩ : BufTy).Contents (Elt F)),
    StableHlo.binary main_while0b_v70 main_while0b_v69 main_while0b_v71 (addf : (⟨S8x2304, .f32⟩ : BufTy).Contents (Elt F) → (⟨S8x2304, .f32⟩ : BufTy).Contents (Elt F) → (⟨S8x2304, .f32⟩ : BufTy).Contents (Elt F)),
    StableHlo.nullary main_while0b_cst_24 (constant S_ .f32 0x3F800000#32),
    StableHlo.unary main_while0b_cst_24 main_while0b_v72 (broadcastInDim S8x2304 ![] bcast_S_S8x2304 : (⟨S_, .f32⟩ : BufTy).Contents (Elt F) → (⟨S8x2304, .f32⟩ : BufTy).Contents (Elt F)),
    StableHlo.binary main_while0b_v72 main_while0b_v71 main_while0b_v73 (Host.divf : (⟨S8x2304, .f32⟩ : BufTy).Contents (Elt F) → (⟨S8x2304, .f32⟩ : BufTy).Contents (Elt F) → (⟨S8x2304, .f32⟩ : BufTy).Contents (Elt F)),
    StableHlo.unary main_while0b_v65 main_while0b_v74 (Host.negf : (⟨S8x2304, .f32⟩ : BufTy).Contents (Elt F) → (⟨S8x2304, .f32⟩ : BufTy).Contents (Elt F)),
    StableHlo.unary main_while0b_v74 main_while0b_v75 (Host.exp : (⟨S8x2304, .f32⟩ : BufTy).Contents (Elt F) → (⟨S8x2304, .f32⟩ : BufTy).Contents (Elt F)),
    StableHlo.nullary main_while0b_cst_25 (constant S_ .f32 0x3F800000#32),
    StableHlo.unary main_while0b_cst_25 main_while0b_v76 (broadcastInDim S8x2304 ![] bcast_S_S8x2304 : (⟨S_, .f32⟩ : BufTy).Contents (Elt F) → (⟨S8x2304, .f32⟩ : BufTy).Contents (Elt F)),
    StableHlo.binary main_while0b_v76 main_while0b_v75 main_while0b_v77 (addf : (⟨S8x2304, .f32⟩ : BufTy).Contents (Elt F) → (⟨S8x2304, .f32⟩ : BufTy).Contents (Elt F) → (⟨S8x2304, .f32⟩ : BufTy).Contents (Elt F)),
    StableHlo.nullary main_while0b_cst_26 (constant S_ .f32 0x3F800000#32),
    StableHlo.unary main_while0b_cst_26 main_while0b_v78 (broadcastInDim S8x2304 ![] bcast_S_S8x2304 : (⟨S_, .f32⟩ : BufTy).Contents (Elt F) → (⟨S8x2304, .f32⟩ : BufTy).Contents (Elt F)),
    StableHlo.binary main_while0b_v78 main_while0b_v77 main_while0b_v79 (Host.divf : (⟨S8x2304, .f32⟩ : BufTy).Contents (Elt F) → (⟨S8x2304, .f32⟩ : BufTy).Contents (Elt F) → (⟨S8x2304, .f32⟩ : BufTy).Contents (Elt F)),
    StableHlo.unary main_while0b_v66 main_while0b_v80 (Host.tanh : (⟨S8x2304, .f32⟩ : BufTy).Contents (Elt F) → (⟨S8x2304, .f32⟩ : BufTy).Contents (Elt F)),
    StableHlo.unary main_while0b_v67 main_while0b_v81 (Host.negf : (⟨S8x2304, .f32⟩ : BufTy).Contents (Elt F) → (⟨S8x2304, .f32⟩ : BufTy).Contents (Elt F)),
    StableHlo.unary main_while0b_v81 main_while0b_v82 (Host.exp : (⟨S8x2304, .f32⟩ : BufTy).Contents (Elt F) → (⟨S8x2304, .f32⟩ : BufTy).Contents (Elt F)),
    StableHlo.nullary main_while0b_cst_27 (constant S_ .f32 0x3F800000#32),
    StableHlo.unary main_while0b_cst_27 main_while0b_v83 (broadcastInDim S8x2304 ![] bcast_S_S8x2304 : (⟨S_, .f32⟩ : BufTy).Contents (Elt F) → (⟨S8x2304, .f32⟩ : BufTy).Contents (Elt F)),
    StableHlo.binary main_while0b_v83 main_while0b_v82 main_while0b_v84 (addf : (⟨S8x2304, .f32⟩ : BufTy).Contents (Elt F) → (⟨S8x2304, .f32⟩ : BufTy).Contents (Elt F) → (⟨S8x2304, .f32⟩ : BufTy).Contents (Elt F)),
    StableHlo.nullary main_while0b_cst_28 (constant S_ .f32 0x3F800000#32),
    StableHlo.unary main_while0b_cst_28 main_while0b_v85 (broadcastInDim S8x2304 ![] bcast_S_S8x2304 : (⟨S_, .f32⟩ : BufTy).Contents (Elt F) → (⟨S8x2304, .f32⟩ : BufTy).Contents (Elt F)),
    StableHlo.binary main_while0b_v85 main_while0b_v84 main_while0b_v86 (Host.divf : (⟨S8x2304, .f32⟩ : BufTy).Contents (Elt F) → (⟨S8x2304, .f32⟩ : BufTy).Contents (Elt F) → (⟨S8x2304, .f32⟩ : BufTy).Contents (Elt F)),
    StableHlo.binary main_while0b_v79 main_v20_9 main_while0b_v87 (mulf : (⟨S8x2304, .f32⟩ : BufTy).Contents (Elt F) → (⟨S8x2304, .f32⟩ : BufTy).Contents (Elt F) → (⟨S8x2304, .f32⟩ : BufTy).Contents (Elt F)),
    StableHlo.binary main_while0b_v73 main_while0b_v80 main_while0b_v88 (mulf : (⟨S8x2304, .f32⟩ : BufTy).Contents (Elt F) → (⟨S8x2304, .f32⟩ : BufTy).Contents (Elt F) → (⟨S8x2304, .f32⟩ : BufTy).Contents (Elt F)),
    StableHlo.binary main_while0b_v87 main_while0b_v88 main_while0b_v89 (addf : (⟨S8x2304, .f32⟩ : BufTy).Contents (Elt F) → (⟨S8x2304, .f32⟩ : BufTy).Contents (Elt F) → (⟨S8x2304, .f32⟩ : BufTy).Contents (Elt F)),
    StableHlo.unary main_while0b_v89 main_while0b_v90 (Host.tanh : (⟨S8x2304, .f32⟩ : BufTy).Contents (Elt F) → (⟨S8x2304, .f32⟩ : BufTy).Contents (Elt F)),
    StableHlo.binary main_while0b_v86 main_while0b_v90 main_while0b_v91 (mulf : (⟨S8x2304, .f32⟩ : BufTy).Contents (Elt F) → (⟨S8x2304, .f32⟩ : BufTy).Contents (Elt F) → (⟨S8x2304, .f32⟩ : BufTy).Contents (Elt F)),
    StableHlo.unary main_while0b_v52 main_while0b_v92 (broadcastInDim S8 ![] bcast_S_S8 : (⟨S_, .i32⟩ : BufTy).Contents (Elt F) → (⟨S8, .i32⟩ : BufTy).Contents (Elt F)),
    StableHlo.binary main_while0b_v92 main_v20_6 main_while0b_v93 (cmpi .slt : (⟨S8, .i32⟩ : BufTy).Contents (Elt F) → (⟨S8, .i32⟩ : BufTy).Contents (Elt F) → (⟨S8, .i1⟩ : BufTy).Contents (Elt F)),
    StableHlo.unary main_while0b_v93 main_while0b_v94 (broadcastInDim S8x1 ![0] bcast_S8_S8x1_0 : (⟨S8, .i1⟩ : BufTy).Contents (Elt F) → (⟨S8x1, .i1⟩ : BufTy).Contents (Elt F)),
    StableHlo.TRef.unary (.of main_while0b_v94 : StableHlo.TRef sig ⟨S8x1, .i1⟩) (.of main_while0b_call4_v0 : StableHlo.TRef sig ⟨S8x2304, .i1⟩) (broadcastInDim S8x2304 ![0, 1] bcast_S8x1_S8x2304_0_1),
    StableHlo.TRef.ternary (.of main_while0b_call4_v0 : StableHlo.TRef sig ⟨S8x2304, .i1⟩) (.of main_while0b_v91 : StableHlo.TRef sig ⟨S8x2304, .f32⟩) (.of main_v20_8 : StableHlo.TRef sig ⟨S8x2304, .f32⟩) (.of main_while0b_v95 : StableHlo.TRef sig ⟨S8x2304, .f32⟩) select,
    StableHlo.TRef.unary (.of main_while0b_v94 : StableHlo.TRef sig ⟨S8x1, .i1⟩) (.of main_while0b_call5_v0 : StableHlo.TRef sig ⟨S8x2304, .i1⟩) (broadcastInDim S8x2304 ![0, 1] bcast_S8x1_S8x2304_0_1),
    StableHlo.TRef.ternary (.of main_while0b_call5_v0 : StableHlo.TRef sig ⟨S8x2304, .i1⟩) (.of main_while0b_v89 : StableHlo.TRef sig ⟨S8x2304, .f32⟩) (.of main_v20_9 : StableHlo.TRef sig ⟨S8x2304, .f32⟩) (.of main_while0b_v96 : StableHlo.TRef sig ⟨S8x2304, .f32⟩) select,
    StableHlo.nullary main_while0b_c_29 (constantI S_ 32 1#32),
    StableHlo.binary main_v20_7 main_while0b_c_29 main_while0b_v97 (addi : (⟨S_, .i32⟩ : BufTy).Contents (Elt F) → (⟨S_, .i32⟩ : BufTy).Contents (Elt F) → (⟨S_, .i32⟩ : BufTy).Contents (Elt F)),
    StableHlo.unary main_while0b_v97 main_v20_7 id,
    StableHlo.unary main_while0b_v95 main_v20_8 id,
    StableHlo.unary main_while0b_v96 main_v20_9 id ]

/-- The operations between the loops. -/
abbrev opsMid : List (HloOp τ sig (Elt F)) :=
  [ StableHlo.nullary main_c_6 (constantI S_ 32 0#32),
    StableHlo.binary main_arg1 main_c_6 main_v21 ((fun x v => Host.reduce IntOp.addi x v reducesTo_S8x64_S8_d1 h_S_) : (⟨S8x64, .i32⟩ : BufTy).Contents (Elt F) → (⟨S_, .i32⟩ : BufTy).Contents (Elt F) → (⟨S8, .i32⟩ : BufTy).Contents (Elt F)),
    StableHlo.binary main_v21 main_arg3 main_v22 (subi : (⟨S8, .i32⟩ : BufTy).Contents (Elt F) → (⟨S8, .i32⟩ : BufTy).Contents (Elt F) → (⟨S8, .i32⟩ : BufTy).Contents (Elt F)),
    StableHlo.unary main_v0 main_v23 (broadcastInDim S1x64 ![1] bcast_S64_S1x64_1 : (⟨S64, .i32⟩ : BufTy).Contents (Elt F) → (⟨S1x64, .i32⟩ : BufTy).Contents (Elt F)),
    StableHlo.unary main_v22 main_v24 (broadcastInDim S8x1 ![0] bcast_S8_S8x1_0 : (⟨S8, .i32⟩ : BufTy).Contents (Elt F) → (⟨S8x1, .i32⟩ : BufTy).Contents (Elt F)),
    StableHlo.unary main_v23 main_v25 (broadcastInDim S8x64 ![0, 1] bcast_S1x64_S8x64_0_1 : (⟨S1x64, .i32⟩ : BufTy).Contents (Elt F) → (⟨S8x64, .i32⟩ : BufTy).Contents (Elt F)),
    StableHlo.unary main_v24 main_v26 (broadcastInDim S8x64 ![0, 1] bcast_S8x1_S8x64_0_1 : (⟨S8x1, .i32⟩ : BufTy).Contents (Elt F) → (⟨S8x64, .i32⟩ : BufTy).Contents (Elt F)),
    StableHlo.binary main_v25 main_v26 main_v27 (cmpi .slt : (⟨S8x64, .i32⟩ : BufTy).Contents (Elt F) → (⟨S8x64, .i32⟩ : BufTy).Contents (Elt F) → (⟨S8x64, .i1⟩ : BufTy).Contents (Elt F)),
    StableHlo.unary main_arg3 main_v28 (broadcastInDim S8x1 ![0] bcast_S8_S8x1_0 : (⟨S8, .i32⟩ : BufTy).Contents (Elt F) → (⟨S8x1, .i32⟩ : BufTy).Contents (Elt F)),
    StableHlo.unary main_v0 main_v29 (broadcastInDim S1x64 ![1] bcast_S64_S1x64_1 : (⟨S64, .i32⟩ : BufTy).Contents (Elt F) → (⟨S1x64, .i32⟩ : BufTy).Contents (Elt F)),
    StableHlo.unary main_v28 main_v30 (broadcastInDim S8x64 ![0, 1] bcast_S8x1_S8x64_0_1 : (⟨S8x1, .i32⟩ : BufTy).Contents (Elt F) → (⟨S8x64, .i32⟩ : BufTy).Contents (Elt F)),
    StableHlo.unary main_v29 main_v31 (broadcastInDim S8x64 ![0, 1] bcast_S1x64_S8x64_0_1 : (⟨S1x64, .i32⟩ : BufTy).Contents (Elt F) → (⟨S8x64, .i32⟩ : BufTy).Contents (Elt F)),
    StableHlo.binary main_v30 main_v31 main_v32 (addi : (⟨S8x64, .i32⟩ : BufTy).Contents (Elt F) → (⟨S8x64, .i32⟩ : BufTy).Contents (Elt F) → (⟨S8x64, .i32⟩ : BufTy).Contents (Elt F)),
    StableHlo.nullary main_c_7 (constantI S_ 32 0#32),
    StableHlo.nullary main_c_8 (constantI S_ 32 63#32),
    StableHlo.TRef.unary (.of main_c_7 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S8x64, .i32⟩) (broadcastInDim S8x64 ![] bcast_S_S8x64),
    StableHlo.TRef.binary (.of main_call6_v1 : StableHlo.TRef sig ⟨S8x64, .i32⟩) (.of main_v32 : StableHlo.TRef sig ⟨S8x64, .i32⟩) (.of main_call6_v2 : StableHlo.TRef sig ⟨S8x64, .i32⟩) maxsi,
    StableHlo.TRef.unary (.of main_c_8 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S8x64, .i32⟩) (broadcastInDim S8x64 ![] bcast_S_S8x64),
    StableHlo.TRef.binary (.of main_call6_v4 : StableHlo.TRef sig ⟨S8x64, .i32⟩) (.of main_call6_v2 : StableHlo.TRef sig ⟨S8x64, .i32⟩) (.of main_v33 : StableHlo.TRef sig ⟨S8x64, .i32⟩) minsi,
    StableHlo.unary main_v33 main_v34 (broadcastInDim S8x64x1 ![0, 1] bcast_S8x64_S8x64x1_0_1 : (⟨S8x64, .i32⟩ : BufTy).Contents (Elt F) → (⟨S8x64x1, .i32⟩ : BufTy).Contents (Elt F)),
    StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S8x64x1, .i32⟩) (broadcastInDim S8x64x1 ![] bcast_S_S8x64x1),
    StableHlo.TRef.binary (.of main_v34 : StableHlo.TRef sig ⟨S8x64x1, .i32⟩) (.of main_call7_v0 : StableHlo.TRef sig ⟨S8x64x1, .i32⟩) (.of main_call7_v1 : StableHlo.TRef sig ⟨S8x64x1, .i1⟩) (cmpi .slt),
    StableHlo.TRef.nullary (.of main_call7_c_0 : StableHlo.TRef sig ⟨S_, .i32⟩) (constantI S_ 32 64#32),
    StableHlo.TRef.unary (.of main_call7_c_0 : StableHlo.TRef sig ⟨S_, .i32⟩) (.of main_call7_v2 : StableHlo.TRef sig ⟨S8x64x1, .i32⟩) (broadcastInDim S8x64x1 ![] bcast_S_S8x64x1),
    StableHlo.TRef.binary (.of main_v34 : StableHlo.TRef sig ⟨S8x64x1, .i32⟩) (.of main_call7_v2 : StableHlo.TRef sig ⟨S8x64x1, .i32⟩) (.of main_call7_v3 : StableHlo.TRef sig ⟨S8x64x1, .i32⟩) addi,
    StableHlo.TRef.ternary (.of main_call7_v1 : StableHlo.TRef sig ⟨S8x64x1, .i1⟩) (.of main_call7_v3 : StableHlo.TRef sig ⟨S8x64x1, .i32⟩) (.of main_v34 : StableHlo.TRef sig ⟨S8x64x1, .i32⟩) (.of main_call7_v4 : StableHlo.TRef sig ⟨S8x64x1, .i32⟩) select,
    StableHlo.TRef.nullary (.of main_call7_c_1 : StableHlo.TRef sig ⟨S1, .i32⟩) (constantI S1 32 63#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v5 : StableHlo.TRef sig ⟨S8x64x1, .i32⟩) (broadcastInDim S8x64x1 ![] bcast_S_S8x64x1),
    StableHlo.TRef.binary (.of main_call7_v4 : StableHlo.TRef sig ⟨S8x64x1, .i32⟩) (.of main_call7_v5 : StableHlo.TRef sig ⟨S8x64x1, .i32⟩) (.of main_call7_v6 : StableHlo.TRef sig ⟨S8x64x1, .i1⟩) (cmpi .sge),
    StableHlo.TRef.unary (.of main_call7_c_1 : StableHlo.TRef sig ⟨S1, .i32⟩) (.of main_call7_v7 : StableHlo.TRef sig ⟨S1x1x1, .i32⟩) (broadcastInDim S1x1x1 ![2] bcast_S1_S1x1x1_2),
    StableHlo.TRef.unary (.of main_call7_v7 : StableHlo.TRef sig ⟨S1x1x1, .i32⟩) (.of main_call7_v8 : StableHlo.TRef sig ⟨S8x64x1, .i32⟩) (broadcastInDim S8x64x1 ![0, 1, 2] bcast_S1x1x1_S8x64x1_0_1_2),
    StableHlo.TRef.binary (.of main_call7_v4 : StableHlo.TRef sig ⟨S8x64x1, .i32⟩) (.of main_call7_v8 : StableHlo.TRef sig ⟨S8x64x1, .i32⟩) (.of main_call7_v9 : StableHlo.TRef sig ⟨S8x64x1, .i1⟩) (cmpi .sle),
    StableHlo.TRef.binary (.of main_call7_v6 : StableHlo.TRef sig ⟨S8x64x1, .i1⟩) (.of main_call7_v9 : StableHlo.TRef sig ⟨S8x64x1, .i1⟩) (.of main_call7_v10 : StableHlo.TRef sig ⟨S8x64x1, .i1⟩) andi,
    StableHlo.TRef.nullary (.of main_call7_c_3 : StableHlo.TRef sig ⟨S_, .i1⟩) (constantI S_ 1 1#1),
    StableHlo.TRef.binary (.of main_call7_v10 : StableHlo.TRef sig ⟨S8x64x1, .i1⟩) (.of main_call7_c_3 : StableHlo.TRef sig ⟨S_, .i1⟩) (.of main_call7_v11 : StableHlo.TRef sig ⟨S8x64, .i1⟩) (fun x v => Host.reduce IntOp.andi x v reducesTo_S8x64x1_S8x64_d2 h_S_),
    StableHlo.TRef.binary (.of main_arg0 : StableHlo.TRef sig ⟨S8x64x2304, .f32⟩) (.of main_call7_v4 : StableHlo.TRef sig ⟨S8x64x1, .i32⟩) (.of main_call7_v12 : StableHlo.TRef sig ⟨S8x64x2304, .f32⟩) (fun x i => Host.gather gather_S8x64x2304_S8x64x1_S8x64x2304_2_1_0_0_1_2_112304 x i),
    StableHlo.TRef.unary (.of main_call7_v11 : StableHlo.TRef sig ⟨S8x64, .i1⟩) (.of main_call7_v13 : StableHlo.TRef sig ⟨S8x64x2304, .i1⟩) (broadcastInDim S8x64x2304 ![0, 1] bcast_S8x64_S8x64x2304_0_1),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v14 : StableHlo.TRef sig ⟨S8x64x2304, .f32⟩) (broadcastInDim S8x64x2304 ![] bcast_S_S8x64x2304),
    StableHlo.TRef.ternary (.of main_call7_v13 : StableHlo.TRef sig ⟨S8x64x2304, .i1⟩) (.of main_call7_v12 : StableHlo.TRef sig ⟨S8x64x2304, .f32⟩) (.of main_call7_v14 : StableHlo.TRef sig ⟨S8x64x2304, .f32⟩) (.of main_v35 : StableHlo.TRef sig ⟨S8x64x2304, .f32⟩) select,
    StableHlo.unary main_v27 main_v36 (broadcastInDim S8x64x1 ![0, 1] bcast_S8x64_S8x64x1_0_1 : (⟨S8x64, .i1⟩ : BufTy).Contents (Elt F) → (⟨S8x64x1, .i1⟩ : BufTy).Contents (Elt F)),
    StableHlo.nullary main_cst_9 (constant S_ .f32 0x00000000#32),
    StableHlo.TRef.unary (.of main_cst_9 : StableHlo.TRef sig ⟨S_, .f32⟩) (.of main_call8_v0 : StableHlo.TRef sig ⟨S_, .f32⟩) id,
    StableHlo.TRef.unary (.of main_v36 : StableHlo.TRef sig ⟨S8x64x1, .i1⟩) (.of main_call8_v1 : StableHlo.TRef sig ⟨S8x64x2304, .i1⟩) (broadcastInDim S8x64x2304 ![0, 1, 2] bcast_S8x64x1_S8x64x2304_0_1_2),
    StableHlo.TRef.unary (.of main_call8_v0 : StableHlo.TRef sig ⟨S_, .f32⟩) (.of main_call8_v2 : StableHlo.TRef sig ⟨S8x64x2304, .f32⟩) (broadcastInDim S8x64x2304 ![] bcast_S_S8x64x2304),
    StableHlo.TRef.ternary (.of main_call8_v1 : StableHlo.TRef sig ⟨S8x64x2304, .i1⟩) (.of main_v35 : StableHlo.TRef sig ⟨S8x64x2304, .f32⟩) (.of main_call8_v2 : StableHlo.TRef sig ⟨S8x64x2304, .f32⟩) (.of main_v37 : StableHlo.TRef sig ⟨S8x64x2304, .f32⟩) select,
    StableHlo.binary main_v21 main_arg3 main_v38 (cmpi .sgt : (⟨S8, .i32⟩ : BufTy).Contents (Elt F) → (⟨S8, .i32⟩ : BufTy).Contents (Elt F) → (⟨S8, .i1⟩ : BufTy).Contents (Elt F)),
    StableHlo.nullary main_c_10 (constantI S_ 32 1#32),
    StableHlo.TRef.unary (.of main_c_10 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S8, .i32⟩) (broadcastInDim S8 ![] bcast_S_S8),
    StableHlo.TRef.ternary (.of main_v38 : StableHlo.TRef sig ⟨S8, .i1⟩) (.of main_v22 : StableHlo.TRef sig ⟨S8, .i32⟩) (.of main_call9_v1 : StableHlo.TRef sig ⟨S8, .i32⟩) (.of main_v39 : StableHlo.TRef sig ⟨S8, .i32⟩) select,
    StableHlo.nullary main_cst_11 (constant S_ .f32 0x00000000#32),
    StableHlo.unary main_cst_11 main_v40 (broadcastInDim S8x2304 ![] bcast_S_S8x2304 : (⟨S_, .f32⟩ : BufTy).Contents (Elt F) → (⟨S8x2304, .f32⟩ : BufTy).Contents (Elt F)),
    StableHlo.nullary main_cst_12 (constant S_ .f32 0x00000000#32),
    StableHlo.unary main_cst_12 main_v41 (broadcastInDim S8x2304 ![] bcast_S_S8x2304 : (⟨S_, .f32⟩ : BufTy).Contents (Elt F) → (⟨S8x2304, .f32⟩ : BufTy).Contents (Elt F)),
    StableHlo.unary main_v37 main_v42 ((transpose S64x8x2304 [1, 0, 2] · transposes_S8x64x2304_S64x8x2304_1_0_2) : (⟨S8x64x2304, .f32⟩ : BufTy).Contents (Elt F) → (⟨S64x8x2304, .f32⟩ : BufTy).Contents (Elt F)),
    StableHlo.nullary main_v43 (iotaInDim S64 32 0),
    StableHlo.nullary main_c_13 (constantI S_ 32 0#32),
    StableHlo.unary main_v42 main_v44_0 id,
    StableHlo.unary main_v43 main_v44_1 id,
    StableHlo.unary main_arg4 main_v44_2 id,
    StableHlo.unary main_arg5 main_v44_3 id,
    StableHlo.unary main_arg6 main_v44_4 id,
    StableHlo.unary main_arg7 main_v44_5 id,
    StableHlo.unary main_v39 main_v44_6 id,
    StableHlo.unary main_c_13 main_v44_7 id,
    StableHlo.unary main_v40 main_v44_8 id,
    StableHlo.unary main_v41 main_v44_9 id ]

/-- The operations of the second loop's condition. -/
abbrev condR : List (HloOp τ sig (Elt F)) :=
  [ StableHlo.nullary main_while1c_c_23 (constantI S_ 32 64#32),
    StableHlo.binary main_v44_7 main_while1c_c_23 main_while1c_v51 (cmpi .slt : (⟨S_, .i32⟩ : BufTy).Contents (Elt F) → (⟨S_, .i32⟩ : BufTy).Contents (Elt F) → (⟨S_, .i1⟩ : BufTy).Contents (Elt F)) ]

/-- The operations of the second loop's body. -/
abbrev bodyR : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.unaryIndexed (.of main_v44_0 : StableHlo.TRef sig ⟨S64x8x2304, .f32⟩) ![(.of main_v44_7 : StableHlo.TRef sig ⟨S_, .i32⟩), (.of main_while1b_call10_c : StableHlo.TRef sig ⟨S_, .i32⟩), (.of main_while1b_call10_c_0 : StableHlo.TRef sig ⟨S_, .i32⟩)] (.of main_while1b_call10_v0 : StableHlo.TRef sig ⟨S1x8x2304, .f32⟩) (fun x i => Host.dynamicSlice S1x8x2304 x (fun k => (i k (Shape.Idx.first h_S_)).toInt) sliceFits_S64x8x2304_S1x8x2304),
    StableHlo.TRef.reshape (.of main_while1b_call10_v0 : StableHlo.TRef sig ⟨S1x8x2304, .f32⟩) (.of main_while1b_v51 : StableHlo.TRef sig ⟨S8x2304, .f32⟩) (rfl : (.f32 : EltTy) = .f32) shapeCasts_S1x8x2304_S8x2304,
    StableHlo.TRef.unaryIndexed (.of main_v44_1 : StableHlo.TRef sig ⟨S64, .i32⟩) ![(.of main_v44_7 : StableHlo.TRef sig ⟨S_, .i32⟩)] (.of main_while1b_call11_v0 : StableHlo.TRef sig ⟨S1, .i32⟩) (fun x i => Host.dynamicSlice S1 x (fun k => (i k (Shape.Idx.first h_S_)).toInt) sliceFits_S64_S1),
    StableHlo.TRef.reshape (.of main_while1b_call11_v0 : StableHlo.TRef sig ⟨S1, .i32⟩) (.of main_while1b_v52 : StableHlo.TRef sig ⟨S_, .i32⟩) (rfl : (.i32 : EltTy) = .i32) shapeCasts_S1_S_,
    StableHlo.unary main_v44_2 main_while1b_v53 ((transpose S2304x9216 [1, 0] · transposes_S9216x2304_S2304x9216_1_0) : (⟨S9216x2304, .f32⟩ : BufTy).Contents (Elt F) → (⟨S2304x9216, .f32⟩ : BufTy).Contents (Elt F)),
    StableHlo.binary main_while1b_v51 main_while1b_v53 main_while1b_v54 ((fun l r => Host.dotGeneral dot_S8x2304_S2304x9216_S8x9216_1_0_0_1_n_n none l r) : (⟨S8x2304, .f32⟩ : BufTy).Contents (Elt F) → (⟨S2304x9216, .f32⟩ : BufTy).Contents (Elt F) → (⟨S8x9216, .f32⟩ : BufTy).Contents (Elt F)),
    StableHlo.unary main_v44_3 main_while1b_v55 ((transpose S2304x9216 [1, 0] · transposes_S9216x2304_S2304x9216_1_0) : (⟨S9216x2304, .f32⟩ : BufTy).Contents (Elt F) → (⟨S2304x9216, .f32⟩ : BufTy).Contents (Elt F)),
    StableHlo.binary main_v44_8 main_while1b_v55 main_while1b_v56 ((fun l r => Host.dotGeneral dot_S8x2304_S2304x9216_S8x9216_1_0_0_1_n_n none l r) : (⟨S8x2304, .f32⟩ : BufTy).Contents (Elt F) → (⟨S2304x9216, .f32⟩ : BufTy).Contents (Elt F) → (⟨S8x9216, .f32⟩ : BufTy).Contents (Elt F)),
    StableHlo.binary main_while1b_v54 main_while1b_v56 main_while1b_v57 (addf : (⟨S8x9216, .f32⟩ : BufTy).Contents (Elt F) → (⟨S8x9216, .f32⟩ : BufTy).Contents (Elt F) → (⟨S8x9216, .f32⟩ : BufTy).Contents (Elt F)),
    StableHlo.unary main_v44_4 main_while1b_v58 (broadcastInDim S1x9216 ![1] bcast_S9216_S1x9216_1 : (⟨S9216, .f32⟩ : BufTy).Contents (Elt F) → (⟨S1x9216, .f32⟩ : BufTy).Contents (Elt F)),
    StableHlo.unary main_while1b_v58 main_while1b_v59 (broadcastInDim S8x9216 ![0, 1] bcast_S1x9216_S8x9216_0_1 : (⟨S1x9216, .f32⟩ : BufTy).Contents (Elt F) → (⟨S8x9216, .f32⟩ : BufTy).Contents (Elt F)),
    StableHlo.binary main_while1b_v57 main_while1b_v59 main_while1b_v60 (addf : (⟨S8x9216, .f32⟩ : BufTy).Contents (Elt F) → (⟨S8x9216, .f32⟩ : BufTy).Contents (Elt F) → (⟨S8x9216, .f32⟩ : BufTy).Contents (Elt F)),
    StableHlo.unary main_v44_5 main_while1b_v61 (broadcastInDim S1x9216 ![1] bcast_S9216_S1x9216_1 : (⟨S9216, .f32⟩ : BufTy).Contents (Elt F) → (⟨S1x9216, .f32⟩ : BufTy).Contents (Elt F)),
    StableHlo.unary main_while1b_v61 main_while1b_v62 (broadcastInDim S8x9216 ![0, 1] bcast_S1x9216_S8x9216_0_1 : (⟨S1x9216, .f32⟩ : BufTy).Contents (Elt F) → (⟨S8x9216, .f32⟩ : BufTy).Contents (Elt F)),
    StableHlo.binary main_while1b_v60 main_while1b_v62 main_while1b_v63 (addf : (⟨S8x9216, .f32⟩ : BufTy).Contents (Elt F) → (⟨S8x9216, .f32⟩ : BufTy).Contents (Elt F) → (⟨S8x9216, .f32⟩ : BufTy).Contents (Elt F)),
    StableHlo.unary main_while1b_v63 main_while1b_v64 ((extractStridedSlice S8x2304 ![0, 0] · slices_S8x9216_S8x2304_0_0) : (⟨S8x9216, .f32⟩ : BufTy).Contents (Elt F) → (⟨S8x2304, .f32⟩ : BufTy).Contents (Elt F)),
    StableHlo.unary main_while1b_v63 main_while1b_v65 ((extractStridedSlice S8x2304 ![0, 2304] · slices_S8x9216_S8x2304_0_2304) : (⟨S8x9216, .f32⟩ : BufTy).Contents (Elt F) → (⟨S8x2304, .f32⟩ : BufTy).Contents (Elt F)),
    StableHlo.unary main_while1b_v63 main_while1b_v66 ((extractStridedSlice S8x2304 ![0, 4608] · slices_S8x9216_S8x2304_0_4608) : (⟨S8x9216, .f32⟩ : BufTy).Contents (Elt F) → (⟨S8x2304, .f32⟩ : BufTy).Contents (Elt F)),
    StableHlo.unary main_while1b_v63 main_while1b_v67 ((extractStridedSlice S8x2304 ![0, 6912] · slices_S8x9216_S8x2304_0_6912) : (⟨S8x9216, .f32⟩ : BufTy).Contents (Elt F) → (⟨S8x2304, .f32⟩ : BufTy).Contents (Elt F)),
    StableHlo.unary main_while1b_v64 main_while1b_v68 (Host.negf : (⟨S8x2304, .f32⟩ : BufTy).Contents (Elt F) → (⟨S8x2304, .f32⟩ : BufTy).Contents (Elt F)),
    StableHlo.unary main_while1b_v68 main_while1b_v69 (Host.exp : (⟨S8x2304, .f32⟩ : BufTy).Contents (Elt F) → (⟨S8x2304, .f32⟩ : BufTy).Contents (Elt F)),
    StableHlo.nullary main_while1b_cst_23 (constant S_ .f32 0x3F800000#32),
    StableHlo.unary main_while1b_cst_23 main_while1b_v70 (broadcastInDim S8x2304 ![] bcast_S_S8x2304 : (⟨S_, .f32⟩ : BufTy).Contents (Elt F) → (⟨S8x2304, .f32⟩ : BufTy).Contents (Elt F)),
    StableHlo.binary main_while1b_v70 main_while1b_v69 main_while1b_v71 (addf : (⟨S8x2304, .f32⟩ : BufTy).Contents (Elt F) → (⟨S8x2304, .f32⟩ : BufTy).Contents (Elt F) → (⟨S8x2304, .f32⟩ : BufTy).Contents (Elt F)),
    StableHlo.nullary main_while1b_cst_24 (constant S_ .f32 0x3F800000#32),
    StableHlo.unary main_while1b_cst_24 main_while1b_v72 (broadcastInDim S8x2304 ![] bcast_S_S8x2304 : (⟨S_, .f32⟩ : BufTy).Contents (Elt F) → (⟨S8x2304, .f32⟩ : BufTy).Contents (Elt F)),
    StableHlo.binary main_while1b_v72 main_while1b_v71 main_while1b_v73 (Host.divf : (⟨S8x2304, .f32⟩ : BufTy).Contents (Elt F) → (⟨S8x2304, .f32⟩ : BufTy).Contents (Elt F) → (⟨S8x2304, .f32⟩ : BufTy).Contents (Elt F)),
    StableHlo.unary main_while1b_v65 main_while1b_v74 (Host.negf : (⟨S8x2304, .f32⟩ : BufTy).Contents (Elt F) → (⟨S8x2304, .f32⟩ : BufTy).Contents (Elt F)),
    StableHlo.unary main_while1b_v74 main_while1b_v75 (Host.exp : (⟨S8x2304, .f32⟩ : BufTy).Contents (Elt F) → (⟨S8x2304, .f32⟩ : BufTy).Contents (Elt F)),
    StableHlo.nullary main_while1b_cst_25 (constant S_ .f32 0x3F800000#32),
    StableHlo.unary main_while1b_cst_25 main_while1b_v76 (broadcastInDim S8x2304 ![] bcast_S_S8x2304 : (⟨S_, .f32⟩ : BufTy).Contents (Elt F) → (⟨S8x2304, .f32⟩ : BufTy).Contents (Elt F)),
    StableHlo.binary main_while1b_v76 main_while1b_v75 main_while1b_v77 (addf : (⟨S8x2304, .f32⟩ : BufTy).Contents (Elt F) → (⟨S8x2304, .f32⟩ : BufTy).Contents (Elt F) → (⟨S8x2304, .f32⟩ : BufTy).Contents (Elt F)),
    StableHlo.nullary main_while1b_cst_26 (constant S_ .f32 0x3F800000#32),
    StableHlo.unary main_while1b_cst_26 main_while1b_v78 (broadcastInDim S8x2304 ![] bcast_S_S8x2304 : (⟨S_, .f32⟩ : BufTy).Contents (Elt F) → (⟨S8x2304, .f32⟩ : BufTy).Contents (Elt F)),
    StableHlo.binary main_while1b_v78 main_while1b_v77 main_while1b_v79 (Host.divf : (⟨S8x2304, .f32⟩ : BufTy).Contents (Elt F) → (⟨S8x2304, .f32⟩ : BufTy).Contents (Elt F) → (⟨S8x2304, .f32⟩ : BufTy).Contents (Elt F)),
    StableHlo.unary main_while1b_v66 main_while1b_v80 (Host.tanh : (⟨S8x2304, .f32⟩ : BufTy).Contents (Elt F) → (⟨S8x2304, .f32⟩ : BufTy).Contents (Elt F)),
    StableHlo.unary main_while1b_v67 main_while1b_v81 (Host.negf : (⟨S8x2304, .f32⟩ : BufTy).Contents (Elt F) → (⟨S8x2304, .f32⟩ : BufTy).Contents (Elt F)),
    StableHlo.unary main_while1b_v81 main_while1b_v82 (Host.exp : (⟨S8x2304, .f32⟩ : BufTy).Contents (Elt F) → (⟨S8x2304, .f32⟩ : BufTy).Contents (Elt F)),
    StableHlo.nullary main_while1b_cst_27 (constant S_ .f32 0x3F800000#32),
    StableHlo.unary main_while1b_cst_27 main_while1b_v83 (broadcastInDim S8x2304 ![] bcast_S_S8x2304 : (⟨S_, .f32⟩ : BufTy).Contents (Elt F) → (⟨S8x2304, .f32⟩ : BufTy).Contents (Elt F)),
    StableHlo.binary main_while1b_v83 main_while1b_v82 main_while1b_v84 (addf : (⟨S8x2304, .f32⟩ : BufTy).Contents (Elt F) → (⟨S8x2304, .f32⟩ : BufTy).Contents (Elt F) → (⟨S8x2304, .f32⟩ : BufTy).Contents (Elt F)),
    StableHlo.nullary main_while1b_cst_28 (constant S_ .f32 0x3F800000#32),
    StableHlo.unary main_while1b_cst_28 main_while1b_v85 (broadcastInDim S8x2304 ![] bcast_S_S8x2304 : (⟨S_, .f32⟩ : BufTy).Contents (Elt F) → (⟨S8x2304, .f32⟩ : BufTy).Contents (Elt F)),
    StableHlo.binary main_while1b_v85 main_while1b_v84 main_while1b_v86 (Host.divf : (⟨S8x2304, .f32⟩ : BufTy).Contents (Elt F) → (⟨S8x2304, .f32⟩ : BufTy).Contents (Elt F) → (⟨S8x2304, .f32⟩ : BufTy).Contents (Elt F)),
    StableHlo.binary main_while1b_v79 main_v44_9 main_while1b_v87 (mulf : (⟨S8x2304, .f32⟩ : BufTy).Contents (Elt F) → (⟨S8x2304, .f32⟩ : BufTy).Contents (Elt F) → (⟨S8x2304, .f32⟩ : BufTy).Contents (Elt F)),
    StableHlo.binary main_while1b_v73 main_while1b_v80 main_while1b_v88 (mulf : (⟨S8x2304, .f32⟩ : BufTy).Contents (Elt F) → (⟨S8x2304, .f32⟩ : BufTy).Contents (Elt F) → (⟨S8x2304, .f32⟩ : BufTy).Contents (Elt F)),
    StableHlo.binary main_while1b_v87 main_while1b_v88 main_while1b_v89 (addf : (⟨S8x2304, .f32⟩ : BufTy).Contents (Elt F) → (⟨S8x2304, .f32⟩ : BufTy).Contents (Elt F) → (⟨S8x2304, .f32⟩ : BufTy).Contents (Elt F)),
    StableHlo.unary main_while1b_v89 main_while1b_v90 (Host.tanh : (⟨S8x2304, .f32⟩ : BufTy).Contents (Elt F) → (⟨S8x2304, .f32⟩ : BufTy).Contents (Elt F)),
    StableHlo.binary main_while1b_v86 main_while1b_v90 main_while1b_v91 (mulf : (⟨S8x2304, .f32⟩ : BufTy).Contents (Elt F) → (⟨S8x2304, .f32⟩ : BufTy).Contents (Elt F) → (⟨S8x2304, .f32⟩ : BufTy).Contents (Elt F)),
    StableHlo.unary main_while1b_v52 main_while1b_v92 (broadcastInDim S8 ![] bcast_S_S8 : (⟨S_, .i32⟩ : BufTy).Contents (Elt F) → (⟨S8, .i32⟩ : BufTy).Contents (Elt F)),
    StableHlo.binary main_while1b_v92 main_v44_6 main_while1b_v93 (cmpi .slt : (⟨S8, .i32⟩ : BufTy).Contents (Elt F) → (⟨S8, .i32⟩ : BufTy).Contents (Elt F) → (⟨S8, .i1⟩ : BufTy).Contents (Elt F)),
    StableHlo.unary main_while1b_v93 main_while1b_v94 (broadcastInDim S8x1 ![0] bcast_S8_S8x1_0 : (⟨S8, .i1⟩ : BufTy).Contents (Elt F) → (⟨S8x1, .i1⟩ : BufTy).Contents (Elt F)),
    StableHlo.TRef.unary (.of main_while1b_v94 : StableHlo.TRef sig ⟨S8x1, .i1⟩) (.of main_while1b_call12_v0 : StableHlo.TRef sig ⟨S8x2304, .i1⟩) (broadcastInDim S8x2304 ![0, 1] bcast_S8x1_S8x2304_0_1),
    StableHlo.TRef.ternary (.of main_while1b_call12_v0 : StableHlo.TRef sig ⟨S8x2304, .i1⟩) (.of main_while1b_v91 : StableHlo.TRef sig ⟨S8x2304, .f32⟩) (.of main_v44_8 : StableHlo.TRef sig ⟨S8x2304, .f32⟩) (.of main_while1b_v95 : StableHlo.TRef sig ⟨S8x2304, .f32⟩) select,
    StableHlo.TRef.unary (.of main_while1b_v94 : StableHlo.TRef sig ⟨S8x1, .i1⟩) (.of main_while1b_call13_v0 : StableHlo.TRef sig ⟨S8x2304, .i1⟩) (broadcastInDim S8x2304 ![0, 1] bcast_S8x1_S8x2304_0_1),
    StableHlo.TRef.ternary (.of main_while1b_call13_v0 : StableHlo.TRef sig ⟨S8x2304, .i1⟩) (.of main_while1b_v89 : StableHlo.TRef sig ⟨S8x2304, .f32⟩) (.of main_v44_9 : StableHlo.TRef sig ⟨S8x2304, .f32⟩) (.of main_while1b_v96 : StableHlo.TRef sig ⟨S8x2304, .f32⟩) select,
    StableHlo.nullary main_while1b_c_29 (constantI S_ 32 1#32),
    StableHlo.binary main_v44_7 main_while1b_c_29 main_while1b_v97 (addi : (⟨S_, .i32⟩ : BufTy).Contents (Elt F) → (⟨S_, .i32⟩ : BufTy).Contents (Elt F) → (⟨S_, .i32⟩ : BufTy).Contents (Elt F)),
    StableHlo.unary main_while1b_v97 main_v44_7 id,
    StableHlo.unary main_while1b_v95 main_v44_8 id,
    StableHlo.unary main_while1b_v96 main_v44_9 id ]

/-- The operations after the second loop. -/
abbrev opsPost : List (HloOp τ sig (Elt F)) :=
  [ StableHlo.binary main_v20_8 main_v44_8 main_v45 ((fun a b => concatenate S8x4608 1 [⟨S8x2304, a⟩, ⟨S8x2304, b⟩] concatenates_S8x2304_S8x2304_S8x4608_d1) : (⟨S8x2304, .f32⟩ : BufTy).Contents (Elt F) → (⟨S8x2304, .f32⟩ : BufTy).Contents (Elt F) → (⟨S8x4608, .f32⟩ : BufTy).Contents (Elt F)),
    StableHlo.unary main_arg8 main_v46 ((transpose S4608x768 [1, 0] · transposes_S768x4608_S4608x768_1_0) : (⟨S768x4608, .f32⟩ : BufTy).Contents (Elt F) → (⟨S4608x768, .f32⟩ : BufTy).Contents (Elt F)),
    StableHlo.binary main_v45 main_v46 main_v47 ((fun l r => Host.dotGeneral dot_S8x4608_S4608x768_S8x768_1_0_0_1_n_n none l r) : (⟨S8x4608, .f32⟩ : BufTy).Contents (Elt F) → (⟨S4608x768, .f32⟩ : BufTy).Contents (Elt F) → (⟨S8x768, .f32⟩ : BufTy).Contents (Elt F)),
    StableHlo.unary main_arg9 main_v48 (broadcastInDim S1x768 ![1] bcast_S768_S1x768_1 : (⟨S768, .f32⟩ : BufTy).Contents (Elt F) → (⟨S1x768, .f32⟩ : BufTy).Contents (Elt F)),
    StableHlo.unary main_v48 main_v49 (broadcastInDim S8x768 ![0, 1] bcast_S1x768_S8x768_0_1 : (⟨S1x768, .f32⟩ : BufTy).Contents (Elt F) → (⟨S8x768, .f32⟩ : BufTy).Contents (Elt F)),
    StableHlo.binary main_v47 main_v49 main_v50 (addf : (⟨S8x768, .f32⟩ : BufTy).Contents (Elt F) → (⟨S8x768, .f32⟩ : BufTy).Contents (Elt F) → (⟨S8x768, .f32⟩ : BufTy).Contents (Elt F)) ]

/-- Every operation of a list touches the core's own buffers only. -/
abbrev Own (ops : List (HloOp τ sig (Elt F))) : Prop := ops.Forall fun op => op.bufs ⊆ StableHlo.tcRefs τ sig

theorem opsPre_own : Own (F := F) opsPre :=
  ⟨StableHlo.nullary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem condL_own : Own (F := F) condL :=
  ⟨StableHlo.nullary_bufs_sub .., StableHlo.binary_bufs_sub ..⟩

theorem bodyL_own : Own (F := F) bodyL :=
  ⟨StableHlo.nullary_bufs_sub .., StableHlo.nullary_bufs_sub .., StableHlo.unaryIndexed_bufs_sub .., StableHlo.reshape_bufs_sub .., StableHlo.unaryIndexed_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.ternary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub ..⟩

theorem opsMid_own : Own (F := F) opsMid :=
  ⟨StableHlo.nullary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.unary_bufs_sub .., StableHlo.nullary_bufs_sub .., StableHlo.unary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem condR_own : Own (F := F) condR :=
  ⟨StableHlo.nullary_bufs_sub .., StableHlo.binary_bufs_sub ..⟩

theorem bodyR_own : Own (F := F) bodyR :=
  ⟨StableHlo.nullary_bufs_sub .., StableHlo.nullary_bufs_sub .., StableHlo.unaryIndexed_bufs_sub .., StableHlo.reshape_bufs_sub .., StableHlo.unaryIndexed_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.ternary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub ..⟩

theorem opsPost_own : Own (F := F) opsPost :=
  ⟨StableHlo.binary_bufs_sub .., StableHlo.unary_bufs_sub .., StableHlo.binary_bufs_sub .., StableHlo.unary_bufs_sub .., StableHlo.unary_bufs_sub .., StableHlo.binary_bufs_sub ..⟩

/-- A list's operations write among the references `W`, in order below. -/
abbrev WritesIn (ops : List (HloOp τ sig (Elt F))) (W : List (Ref sig .tc)) : Prop :=
  ops.Forall fun op => op.writes ⊆ (W.map (Proc.devRef (τ := τ) .tc)).toFinset

abbrev opsPre_W : List (Ref sig .tc) :=
  [main_v0, main_c, main_v1, main_v2, main_v3, main_v4, main_v5, main_v6, main_v7, main_v8, main_cst, main_v9, main_v10, main_v11, main_cst_0, main_call0_v0, main_call0_v1, main_call0_v2, main_v12, main_c_1, main_v13, main_v14, main_c_2, main_call1_v0, main_call1_v1, main_v15, main_cst_3, main_v16, main_cst_4, main_v17, main_v18, main_v19, main_c_5, main_v20_0, main_v20_1, main_v20_2, main_v20_3, main_v20_4, main_v20_5, main_v20_6, main_v20_7, main_v20_8, main_v20_9]
theorem opsPre_writes : WritesIn (F := F) opsPre opsPre_W := StableHlo.forall_writes_sub_of_map rfl

abbrev condL_W : List (Ref sig .tc) :=
  [main_while0c_c_23, main_while0c_v51]
theorem condL_writes : WritesIn (F := F) condL condL_W := StableHlo.forall_writes_sub_of_map rfl

abbrev bodyL_W : List (Ref sig .tc) :=
  [main_while0b_call2_c, main_while0b_call2_c_0, main_while0b_call2_v0, main_while0b_v51, main_while0b_call3_v0, main_while0b_v52, main_while0b_v53, main_while0b_v54, main_while0b_v55, main_while0b_v56, main_while0b_v57, main_while0b_v58, main_while0b_v59, main_while0b_v60, main_while0b_v61, main_while0b_v62, main_while0b_v63, main_while0b_v64, main_while0b_v65, main_while0b_v66, main_while0b_v67, main_while0b_v68, main_while0b_v69, main_while0b_cst_23, main_while0b_v70, main_while0b_v71, main_while0b_cst_24, main_while0b_v72, main_while0b_v73, main_while0b_v74, main_while0b_v75, main_while0b_cst_25, main_while0b_v76, main_while0b_v77, main_while0b_cst_26, main_while0b_v78, main_while0b_v79, main_while0b_v80, main_while0b_v81, main_while0b_v82, main_while0b_cst_27, main_while0b_v83, main_while0b_v84, main_while0b_cst_28, main_while0b_v85, main_while0b_v86, main_while0b_v87, main_while0b_v88, main_while0b_v89, main_while0b_v90, main_while0b_v91, main_while0b_v92, main_while0b_v93, main_while0b_v94, main_while0b_call4_v0, main_while0b_v95, main_while0b_call5_v0, main_while0b_v96, main_while0b_c_29, main_while0b_v97, main_v20_7, main_v20_8, main_v20_9]
theorem bodyL_writes : WritesIn (F := F) bodyL bodyL_W := StableHlo.forall_writes_sub_of_map rfl

abbrev opsMid_W : List (Ref sig .tc) :=
  [main_c_6, main_v21, main_v22, main_v23, main_v24, main_v25, main_v26, main_v27, main_v28, main_v29, main_v30, main_v31, main_v32, main_c_7, main_c_8, main_call6_v0, main_call6_v1, main_call6_v2, main_call6_v3, main_call6_v4, main_v33, main_v34, main_call7_c, main_call7_v0, main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v35, main_v36, main_cst_9, main_call8_v0, main_call8_v1, main_call8_v2, main_v37, main_v38, main_c_10, main_call9_v0, main_call9_v1, main_v39, main_cst_11, main_v40, main_cst_12, main_v41, main_v42, main_v43, main_c_13, main_v44_0, main_v44_1, main_v44_2, main_v44_3, main_v44_4, main_v44_5, main_v44_6, main_v44_7, main_v44_8, main_v44_9]
theorem opsMid_writes : WritesIn (F := F) opsMid opsMid_W := StableHlo.forall_writes_sub_of_map rfl

abbrev condR_W : List (Ref sig .tc) :=
  [main_while1c_c_23, main_while1c_v51]
theorem condR_writes : WritesIn (F := F) condR condR_W := StableHlo.forall_writes_sub_of_map rfl

abbrev bodyR_W : List (Ref sig .tc) :=
  [main_while1b_call10_c, main_while1b_call10_c_0, main_while1b_call10_v0, main_while1b_v51, main_while1b_call11_v0, main_while1b_v52, main_while1b_v53, main_while1b_v54, main_while1b_v55, main_while1b_v56, main_while1b_v57, main_while1b_v58, main_while1b_v59, main_while1b_v60, main_while1b_v61, main_while1b_v62, main_while1b_v63, main_while1b_v64, main_while1b_v65, main_while1b_v66, main_while1b_v67, main_while1b_v68, main_while1b_v69, main_while1b_cst_23, main_while1b_v70, main_while1b_v71, main_while1b_cst_24, main_while1b_v72, main_while1b_v73, main_while1b_v74, main_while1b_v75, main_while1b_cst_25, main_while1b_v76, main_while1b_v77, main_while1b_cst_26, main_while1b_v78, main_while1b_v79, main_while1b_v80, main_while1b_v81, main_while1b_v82, main_while1b_cst_27, main_while1b_v83, main_while1b_v84, main_while1b_cst_28, main_while1b_v85, main_while1b_v86, main_while1b_v87, main_while1b_v88, main_while1b_v89, main_while1b_v90, main_while1b_v91, main_while1b_v92, main_while1b_v93, main_while1b_v94, main_while1b_call12_v0, main_while1b_v95, main_while1b_call13_v0, main_while1b_v96, main_while1b_c_29, main_while1b_v97, main_v44_7, main_v44_8, main_v44_9]
theorem bodyR_writes : WritesIn (F := F) bodyR bodyR_W := StableHlo.forall_writes_sub_of_map rfl

abbrev opsPost_W : List (Ref sig .tc) :=
  [main_v45, main_v46, main_v47, main_v48, main_v49, main_v50]
theorem opsPost_writes : WritesIn (F := F) opsPost opsPost_W := StableHlo.forall_writes_sub_of_map rfl

set_option maxHeartbeats 2000000 in
set_option maxRecDepth 8192 in
theorem bodyL_chain : main_while0_body (F := F) = Pipeline.chain [StableHlo.seq bodyL] := by
  chain_rfl

set_option maxHeartbeats 2000000 in
set_option maxRecDepth 8192 in
theorem bodyR_chain : main_while1_body (F := F) = Pipeline.chain [StableHlo.seq bodyR] := by
  chain_rfl

set_option maxHeartbeats 2000000 in
set_option maxRecDepth 8192 in
theorem main_stretches (c : Dev nD) : main (F := F) c = Pipeline.chain
    [StableHlo.seq opsPre, HostLoop.enter 0, StableHlo.seq opsMid, HostLoop.enter 1, StableHlo.seq opsPost] := by
  chain_rfl

end Cert.Reference

end
-- ==== Proof.RefRun.lean ====
/-
  The reference's run: from any memory with zero counters its execution ends, without a fault, with the buffers at the
  contents the five stretches and the two loops of 64 trips leave, and with the counters at zero.
-/
module

public import proofs.«01_k».proof.Proof.Stretches
public import Idealize.ShloMosaic.Lib.StableHlo.RunRead
public import Idealize.ShloMosaic.Lib.Scf.ExitTest
public import Idealize.ShloMosaic.Lib.Scf.Counter
public import Idealize.ShloMosaic.Lib.Pipeline.RegionsLoop

@[expose] public section

set_option Elab.async false
set_option maxRecDepth 16384

noncomputable section

namespace Cert.Reference

open Idealize.SL Idealize.SL.RA Idealize.SL.BI
open scoped Idealize.SL.BI
open Idealize.SL.BI.BIBase Idealize.SL.BI.Laws Idealize.SL.ProofMode Idealize.SL.Sem
open Idealize.ShloMosaic
open TcCoe
open Cert.ReferenceIdeal Cert.ReferenceIdeal.Gen
open Idealize.ShloMosaic.Pipeline (CSeg ucRefs sub_ucRefs)
open Idealize.ShloMosaic.StableHlo (after atTrip held)

variable {F : FTy → Type} [FloatOps F]
variable (m : (ℓ : Loc nD τ sig) → Buf (Elt F) ℓ) (ρ : Dev nD → PrngReg)

/-! ## The contents along the run -/

/-- The launch's buffers. -/
def R0 (c : Dev nD) : Valuation τ sig (Elt F) := StableHlo.launchContents m c
/-- The buffers at the first loop. -/
def R1 (c : Dev nD) : Valuation τ sig (Elt F) := after opsPre (R0 m c)
/-- The buffers before the first loop's condition runs for the `k`-th time. -/
def tripL (k : ℕ) (c : Dev nD) : Valuation τ sig (Elt F) := atTrip condL [bodyL] (R1 m) k c
/-- The buffers after the first loop. -/
def R2 (c : Dev nD) : Valuation τ sig (Elt F) := after condL (tripL m 64 c)
/-- The buffers at the second loop. -/
def R3 (c : Dev nD) : Valuation τ sig (Elt F) := after opsMid (R2 m c)
/-- The buffers before the second loop's condition runs for the `k`-th time. -/
def tripR (k : ℕ) (c : Dev nD) : Valuation τ sig (Elt F) := atTrip condR [bodyR] (R3 m) k c
/-- The buffers after the second loop. -/
def R4 (c : Dev nD) : Valuation τ sig (Elt F) := after condR (tripR m 64 c)
/-- The buffers at the end. -/
def R5 (c : Dev nD) : Valuation τ sig (Elt F) := after opsPost (R4 m c)

theorem tripL_succ (k : ℕ) (c : Dev nD) : tripL m (k + 1) c = after bodyL (after condL (tripL m k c)) := rfl
theorem tripR_succ (k : ℕ) (c : Dev nD) : tripR m (k + 1) c = after bodyR (after condR (tripR m k c)) := rfl

/-! ## The loops' counters -/

theorem bodyL_counter (V : Valuation τ sig (Elt F)) :
    after bodyL (after condL V) (Proc.devRef .tc main_v20_7) = addi (V (Proc.devRef .tc main_v20_7)) (constantI S_ 32 1#32) := by
  after_reads_simp
  rfl

theorem bodyR_counter (V : Valuation τ sig (Elt F)) :
    after bodyR (after condR V) (Proc.devRef .tc main_v44_7) = addi (V (Proc.devRef .tc main_v44_7)) (constantI S_ 32 1#32) := by
  after_reads_simp
  rfl

/-- Before trip `k` the first loop's counter is `k`. -/
theorem counterL (c : Dev nD) : ∀ k : ℕ, tripL m k c (Proc.devRef .tc main_v20_7) = fun _ => Scf.iv (0#32 : BitVec 32) 1#32 k
  | 0 => by
    rw [Scf.iv_zero]
    rw [show tripL m 0 c = after opsPre (R0 m c) from rfl]
    after_reads_simp
    rfl
  | k + 1 => by rw [tripL_succ, bodyL_counter, counterL c k, Scf.iv_succ]; rfl

/-- Before trip `k` the second loop's counter is `k`. -/
theorem counterR (c : Dev nD) : ∀ k : ℕ, tripR m k c (Proc.devRef .tc main_v44_7) = fun _ => Scf.iv (0#32 : BitVec 32) 1#32 k
  | 0 => by
    rw [Scf.iv_zero]
    rw [show tripR m 0 c = after opsMid (R2 m c) from rfl]
    after_reads_simp
    rfl
  | k + 1 => by rw [tripR_succ, bodyR_counter, counterR c k, Scf.iv_succ]; rfl

theorem trips_eq : Scf.trips (0#32 : BitVec 32) 64#32 1#32 = 64 := by decide

theorem below_iff (k : ℕ) (hk : k ≤ 64) : IntOp.cmpi .slt (Scf.iv (0#32 : BitVec 32) 1#32 k) 64#32 = 1#1 ↔ k < 64 := by
  have h := Scf.cmpi_slt_iv_ub_iff (main_while0_ok : Scf.OK (0#32 : BitVec 32) 64#32 1#32) (k := k) (by rw [trips_eq]; exact hk)
  rwa [trips_eq] at h

/-! ## The loops as segments -/

local notation "𝕄" => MT nD τ sig Unit (Elt F) ℕ (Option PUnit) ℕ

/-- No pipeline, no ticket, no level. -/
abbrev noAdm : (p : Fin 0) → (pcfgs (F := F) p).Adm := fun p => p.elim0
abbrev noTickets : Fin 0 → Pipeline.Ticket (Ix := Unit) (Name := ℕ) (U := Option PUnit) (Lvl := ℕ) (nD := nD) (τ := τ) (pcfgs (F := F)) noAdm :=
  fun j => j.elim0
abbrev noLevels : GSem nD τ sig → Finset Unit := fun _ => ∅
abbrev zeroLevel : GSem nD τ sig → Unit → ℕ := fun _ _ => 0

/-- What rides along with the buffers. -/
abbrev riding (c : Dev nD) : sProp 𝕄 := iprop(∃ W, owes (c : Thread nD τ) (0 : CellTallies nD τ sig Unit) W)

set_option backward.isDefEq.respectTransparency.types false in
theorem loopCondL : StableHlo.LoopCond (pcfgs (F := F)) defs₀ Variants.none loops (riding (F := F)) main_while0_cond condL [bodyL] (R1 m) 64 := by
  intro k hk c bd
  have hctr : atTrip condL [bodyL] (R1 m) k c (Proc.devRef .tc main_v20_7) = _ := counterL m c k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip condL [bodyL] (R1 m) k c) main_v20_7 HostLoop.idx0)
        (HloOp.result _ (atTrip condL [bodyL] (R1 m) k c) main_while0c_c_23 HostLoop.idx0) = 1#1) (k < 64)
    rw [StableHlo.nullary_result_ne _ _ _ _ (by decide), StableHlo.nullary_result, hctr]
    exact below_iff k hk
  isplitl [Hb]; · iexact Hb
  isplitl [Hh]; · rw [StableHlo.after_cons, StableHlo.after_cons, StableHlo.after_nil]; iexact Hh
  iexact HR

set_option backward.isDefEq.respectTransparency.types false in
theorem loopCondR : StableHlo.LoopCond (pcfgs (F := F)) defs₀ Variants.none loops (riding (F := F)) main_while1_cond condR [bodyR] (R3 m) 64 := by
  intro k hk c bd
  have hctr : atTrip condR [bodyR] (R3 m) k c (Proc.devRef .tc main_v44_7) = _ := counterR m c k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip condR [bodyR] (R3 m) k c) main_v44_7 HostLoop.idx0)
        (HloOp.result _ (atTrip condR [bodyR] (R3 m) k c) main_while1c_c_23 HostLoop.idx0) = 1#1) (k < 64)
    rw [StableHlo.nullary_result_ne _ _ _ _ (by decide), StableHlo.nullary_result, hctr]
    exact below_iff k hk
  isplitl [Hb]; · iexact Hb
  isplitl [Hh]; · rw [StableHlo.after_cons, StableHlo.after_cons, StableHlo.after_nil]; iexact Hh
  iexact HR

theorem plainPre : StableHlo.Plain [opsPre (F := F)] := StableHlo.Plain.cons opsPre_own StableHlo.Plain.nil
theorem plainL : StableHlo.Plain [bodyL (F := F)] := StableHlo.Plain.cons bodyL_own StableHlo.Plain.nil
theorem plainMid : StableHlo.Plain [opsMid (F := F)] := StableHlo.Plain.cons opsMid_own StableHlo.Plain.nil
theorem plainR : StableHlo.Plain [bodyR (F := F)] := StableHlo.Plain.cons bodyR_own StableHlo.Plain.nil
theorem plainPost : StableHlo.Plain [opsPost (F := F)] := StableHlo.Plain.cons opsPost_own StableHlo.Plain.nil

/-- A stretch as segments. -/
abbrev stretch (ops : List (HloOp τ sig (Elt F))) (h : StableHlo.Plain [ops]) (V : Dev nD → Valuation τ sig (Elt F)) :
    List (CSeg (pcfgs (F := F)) noAdm defs₀ Variants.none noLevels zeroLevel loops noTickets) :=
  StableHlo.segsOf _ _ _ _ _ _ _ _ riding [ops] h V

/-- The program's segments in order. -/
abbrev segments : List (CSeg (pcfgs (F := F)) noAdm defs₀ Variants.none noLevels zeroLevel loops noTickets) :=
  stretch opsPre plainPre (R0 m)
    ++ StableHlo.loopSeg _ _ _ _ _ _ _ _ 0 main_while0_cond main_while0_body rfl condL [bodyL] plainL bodyL_chain 64 (R1 m) riding (loopCondL m)
      :: (stretch opsMid plainMid (R2 m)
    ++ StableHlo.loopSeg _ _ _ _ _ _ _ _ 1 main_while1_cond main_while1_body rfl condR [bodyR] plainR bodyR_chain 64 (R3 m) riding (loopCondR m)
      :: stretch opsPost plainPost (R4 m))

theorem segments_prog : (segments m).map CSeg.prog
    = [StableHlo.seq opsPre, HostLoop.enter 0, StableHlo.seq opsMid, HostLoop.enter 1, StableHlo.seq opsPost] := rfl

set_option maxRecDepth 16384 in
theorem no_unscoped : ∀ sm : SemLoc sig, sm.isScoped .tc = true := by decide

set_option backward.isDefEq.respectTransparency.types false in
/-- Every weakly fair execution from zero counters ends, without a fault, with the buffers at `R5` and the counters at
    zero. -/
theorem run : θ_run defs (onTc (τ := τ) (main (F := F))) ⟨m, fun _ => 0, ρ⟩ (fun r =>
    (∀ c : Dev nD, ∀ b ∈ ucRefs τ sig, r.2.mem (((c : Thread nD τ)).1, b) = R5 m c b) ∧ r.2.sem = fun _ => 0) :=
  Pipeline.θ_run_regions_loop_kit_dev_sems (Ix := Unit) (Name := ℕ) (U := Option PUnit) (Lvl := ℕ) (J := Fin 0) (P := Fin 0) (Val := Elt F)
    (pcfgs (F := F)) noAdm (fun k => k.1.elim0) defs₀ Variants.none noLevels zeroLevel loops noTickets m ρ main (fun _ => segments m)
    (fun c Q => by
      rw [main_stretches c, ← segments_prog m]
      exact .rfl)
    (fun c => CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (R0 m c) ∗ riding c))
    (Tₙ := fun c => iprop(held (c : Thread nD τ) (ucRefs τ sig) (R5 m c)))
    (hch := fun _ => ⟨.rfl, .rfl, .rfl, .rfl, .rfl, .rfl⟩)
    (hinit := by
      refine Pipeline.initEach noLevels zeroLevel fun c => ?_
      rw [show unscopedBufs c (fun b => m ((c : Thread nD τ).loc b)) = held (c : Thread nD τ) (ucRefs τ sig) (R0 m c)
        from Pipeline.unscopedBufs_held c (R0 m c)]
      iintro ⟨⟨Hh, -, HO, -, -, -⟩, -⟩
      imodintro
      isplitl [Hh]; · iexact Hh
      iexists ∅; iexact HO)
    (QY := fun c s => ∀ b ∈ ucRefs τ sig, s.mem (((c : Thread nD τ)).1, b) = R5 m c b)
    (hfin := fun c s' => by
      iintro ⟨Hh, HSI⟩
      unfold held
      imodintro
      iapply (pointsTo_read_all (ucRefs τ sig) (fun b => (((c : Thread nD τ)).1, b)) (R5 m c) s')
      isplitl [Hh] <;> iassumption)
    (hQ := fun _ h hz => ⟨h, funext fun g => hz g (.inr (no_unscoped g.2))⟩)

/-! ## The arguments are never written -/

abbrev args : List (Ref sig .tc) :=
  [main_arg0, main_arg1, main_arg2, main_arg3, main_arg4, main_arg5, main_arg6, main_arg7, main_arg8, main_arg9]

theorem opsPre_args : ∀ a ∈ args, a ∉ opsPre_W := ListAll.forall_mem_of_all_decide (by decide +kernel)
theorem condL_args : ∀ a ∈ args, a ∉ condL_W := ListAll.forall_mem_of_all_decide (by decide +kernel)
theorem bodyL_args : ∀ a ∈ args, a ∉ bodyL_W := ListAll.forall_mem_of_all_decide (by decide +kernel)
theorem opsMid_args : ∀ a ∈ args, a ∉ opsMid_W := ListAll.forall_mem_of_all_decide (by decide +kernel)
theorem condR_args : ∀ a ∈ args, a ∉ condR_W := ListAll.forall_mem_of_all_decide (by decide +kernel)
theorem bodyR_args : ∀ a ∈ args, a ∉ bodyR_W := ListAll.forall_mem_of_all_decide (by decide +kernel)
theorem opsPost_args : ∀ a ∈ args, a ∉ opsPost_W := ListAll.forall_mem_of_all_decide (by decide +kernel)

/-- What the first loop's trips do not write stays at its contents before the loop. -/
theorem tripL_of (c : Dev nD) (r : Ref sig .tc) (hc : r ∉ condL_W) (hb : r ∉ bodyL_W) :
    ∀ k, tripL m k c (Proc.devRef .tc r) = R1 m c (Proc.devRef .tc r)
  | 0 => rfl
  | k + 1 => by
    rw [tripL_succ, StableHlo.after_of_writes_sub bodyL _ bodyL_writes hb, StableHlo.after_of_writes_sub condL _ condL_writes hc, tripL_of c r hc hb k]

/-- What the second loop's trips do not write stays at its contents before the loop. -/
theorem tripR_of (c : Dev nD) (r : Ref sig .tc) (hc : r ∉ condR_W) (hb : r ∉ bodyR_W) :
    ∀ k, tripR m k c (Proc.devRef .tc r) = R3 m c (Proc.devRef .tc r)
  | 0 => rfl
  | k + 1 => by
    rw [tripR_succ, StableHlo.after_of_writes_sub bodyR _ bodyR_writes hb, StableHlo.after_of_writes_sub condR _ condR_writes hc, tripR_of c r hc hb k]

theorem R1_args (c : Dev nD) (a) (h : a ∈ args) : R1 m c (Proc.devRef .tc a) = m ((c : Thread nD τ).loc a) :=
  StableHlo.after_of_writes_sub opsPre _ opsPre_writes (opsPre_args a h)
theorem R2_args (c : Dev nD) (a) (h : a ∈ args) : R2 m c (Proc.devRef .tc a) = m ((c : Thread nD τ).loc a) :=
  (StableHlo.after_of_writes_sub condL _ condL_writes (condL_args a h)).trans
    ((tripL_of m c a (condL_args a h) (bodyL_args a h) 64).trans (R1_args m c a h))
theorem R3_args (c : Dev nD) (a) (h : a ∈ args) : R3 m c (Proc.devRef .tc a) = m ((c : Thread nD τ).loc a) :=
  (StableHlo.after_of_writes_sub opsMid _ opsMid_writes (opsMid_args a h)).trans (R2_args m c a h)
theorem R4_args (c : Dev nD) (a) (h : a ∈ args) : R4 m c (Proc.devRef .tc a) = m ((c : Thread nD τ).loc a) :=
  (StableHlo.after_of_writes_sub condR _ condR_writes (condR_args a h)).trans
    ((tripR_of m c a (condR_args a h) (bodyR_args a h) 64).trans (R3_args m c a h))
theorem R5_args (c : Dev nD) (a) (h : a ∈ args) : R5 m c (Proc.devRef .tc a) = m ((c : Thread nD τ).loc a) :=
  (StableHlo.after_of_writes_sub opsPost _ opsPost_writes (opsPost_args a h)).trans (R4_args m c a h)

theorem mem_uc (b : Ref sig .tc) (h : ¬ (Proc.devRef .tc b : DevRef τ sig).isScoped) : Proc.devRef .tc b ∈ ucRefs τ sig :=
  Finset.mem_filter.mpr ⟨StableHlo.devRef_mem_tcRefs b, h⟩

/-- The arguments of a final state are those of the launch. -/
def ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)

theorem args_kept {s : MemSt nD τ sig (Elt F)} {c : Dev nD} (h : ∀ b ∈ ucRefs τ sig, s.mem (((c : Thread nD τ)).1, b) = R5 m c b) :
    ArgsKept m s c :=
  ⟨(h _ (mem_uc main_arg0 (by decide))).trans (R5_args m c main_arg0 (by decide)),
   (h _ (mem_uc main_arg1 (by decide))).trans (R5_args m c main_arg1 (by decide)),
   (h _ (mem_uc main_arg2 (by decide))).trans (R5_args m c main_arg2 (by decide)),
   (h _ (mem_uc main_arg3 (by decide))).trans (R5_args m c main_arg3 (by decide)),
   (h _ (mem_uc main_arg4 (by decide))).trans (R5_args m c main_arg4 (by decide)),
   (h _ (mem_uc main_arg5 (by decide))).trans (R5_args m c main_arg5 (by decide)),
   (h _ (mem_uc main_arg6 (by decide))).trans (R5_args m c main_arg6 (by decide)),
   (h _ (mem_uc main_arg7 (by decide))).trans (R5_args m c main_arg7 (by decide)),
   (h _ (mem_uc main_arg8 (by decide))).trans (R5_args m c main_arg8 (by decide)),
   (h _ (mem_uc main_arg9 (by decide))).trans (R5_args m c main_arg9 (by decide))⟩

end Cert.Reference

end
-- ==== Proof.Frames.lean ====
/-
  The programs end without a fault, with their arguments unchanged and every semaphore counter at zero. The kernel and its
  idealization are the same program text, so one statement at any float interpretation serves both.
-/
module

public import proofs.«01_k».proof.Defs
public import proofs.«01_k».proof.Proof.Gen.Kernel
public import proofs.«01_k».proof.Proof.Run
public import proofs.«01_k».proof.Proof.RefRun

@[expose] public section

noncomputable section

namespace Cert.Lstm

open Idealize.ShloMosaic Idealize.SL.Sem
open TcCoe

section
open Cert.KernelIdeal

/-- The frame statement at a float interpretation, over the idealized program's text. -/
def FrameAt (F : FTy → Type) [FloatOps F] [inst : Cert.KernelIdeal.Facts] : Prop :=
  ∀ (m : (ℓ : Loc nD τ sig) → Buf (Elt F) ℓ) (g : Dev nD → PrngReg), True →
    θ_run (Cert.KernelIdeal.defs (F := F)) (onTc (τ := τ) (Cert.KernelIdeal.main (F := F))) ⟨m, fun _ => 0, g⟩
      (fun r => (∀ c : Dev nD, ArgsKept m r.2 c) ∧ r.2.sem = fun _ => 0)

theorem frame_at (F : FTy → Type) [FloatOps F] : FrameAt F (inst := Cert.KernelIdeal.Gen.facts) := fun m g _ =>
  (θ_run _ _ _).mono (fun _ h => ⟨fun _ => args_kept m (h.1 _), h.2⟩) (run m g)

end

theorem frame_kernel : Cert.quiescent_Kernel (hKernel := Cert.Kernel.Gen.facts) := by
  have e : Cert.quiescent_Kernel (hKernel := Cert.Kernel.Gen.facts) = FrameAt Bits (inst := Cert.KernelIdeal.Gen.facts) := by chain_rfl
  rw [e]; exact frame_at Bits

theorem frame_ideal : Cert.quiescent_KernelIdeal (hKernelIdeal := Cert.KernelIdeal.Gen.facts) := fun m g h => frame_at Ideal m g h

theorem frame_reference : Cert.quiescent_ReferenceIdeal (hReferenceIdeal := Cert.ReferenceIdeal.Gen.facts) := fun m g _ =>
  (θ_run _ _ _).mono (fun _ h => ⟨fun _ => Cert.Reference.args_kept m (h.1 _), h.2⟩) (Cert.Reference.run m g)

end Cert.Lstm

end
-- ==== Proof.KArrays.lean ====
/-
  The arrays the three regions leave, over the extended reals, as functions of the arrays they are entered with: the
  projected input, the transposed weights, the final hidden state and the result; and what each step of the recurrence reads.
-/
module

public import proofs.«01_k».proof.Proof.Recurrence
public import proofs.«01_k».proof.Proof.Output
public import Idealize.ShloMosaic.Lib.Pointwise
public import Idealize.ShloMosaic.Lib.Pipeline.ValueKit

@[expose] public section

set_option maxRecDepth 16384

noncomputable section

namespace Cert.Lstm

open Cert.KernelIdeal Cert.KernelIdeal.Gen
open Idealize.ShloMosaic Idealize.ShloMosaic.TcCoe
open Idealize.ShloMosaic.Pipeline (Dat)

variable (V : Bufs Ideal) (c : Dev nD)

/-- Which block each window of the projection is on. -/
theorem idx0 : ∀ t : Fin cfg0.N, win0_0.index t = ![0, 0] ∧ win0_1.index t = ![t.val, 0] ∧ win0_2.index t = ![t.val, 0]
    ∧ win0_3.index t = ![0, t.val] ∧ win0_4.index t = ![0, t.val] := (by decide +kernel : ∀ t : Fin grid0.N, _)

/-- Which block each window of the recurrence is on. -/
theorem idx1 : ∀ t : Fin cfg1.N, win1_0.index t = ![0, 0] ∧ win1_1.index t = ![0, min (t.val + 1) 63] ∧ win1_2.index t = ![0, t.val]
    ∧ win1_3.index t = ![0, 0] ∧ win1_4.index t = ![0, 0] ∧ win1_5.index t = ![0, 0] := (by decide +kernel : ∀ t : Fin grid1.N, _)

/-- Which block each window of the output kernel is on. -/
theorem idx2 : ∀ t : Fin cfg2.N, win2_0.index t = ![0, 0] ∧ win2_1.index t = ![0, 0] ∧ win2_2.index t = ![0, 0] ∧ win2_3.index t = ![0, 0] :=
  (by decide +kernel : ∀ t : Fin grid2.N, _)

/-- The rows of `x` times the rows of `w`. -/
abbrev gxOf (x : FVec Ideal S512x2304 .f32) (w : FVec Ideal S9216x2304 .f32) : FVec Ideal S512x9216 .bf16 :=
  fun i => ∑ k : Fin 2304, x (ix2 (i 0) k) * w (ix2 (i 1) k)
/-- `w` transposed. -/
abbrev trOf (w : FVec Ideal S9216x2304 .f32) : FVec Ideal S2304x9216 .bf16 := fun i => w (ix2 (i 1) (i 0))

theorem gx_final : (proj V c).arrAt 3 cfg0.N = gxOf (V c main_call0_v0) (V c main_arg4) := by
  refine (proj V c).arrAt_eq_of_covers 3 _ (by decide +kernel) fun t _ y => ?_
  blk_simp
  rw [proj_after3]
  pointwise [k0_pay1, gxOf]
  blk_point [tile0, idx0 t]

theorem wht_final : (proj V c).arrAt 4 cfg0.N = trOf (V c main_arg5) := by
  refine (proj V c).arrAt_eq_of_covers 4 _ (by decide +kernel) fun t _ y => ?_
  blk_simp
  rw [proj_after4]
  pointwise [k0_pay2, trOf]
  blk_point [tile0, idx0 t]

theorem hid_final : (recur V c).arrAt 5 cfg1.N = (state V c 64).1 := by
  refine (recur V c).arrAt_eq_of_covers 5 _ (by decide +kernel) fun t _ y => ?_
  blk_simp
  rw [recur_after5]
  blk_ext [idx1 t]

theorem feed_bnd (t : Fin cfg1.N) : (feed V c t).bnd = V c main_call0_v19 := by
  funext y
  show tile1 V c 0 t y = _
  blk_ext [tile1, idx1 t]
theorem feed_wh (t : Fin cfg1.N) : (feed V c t).wh = V c main_call0_v20_1 := by
  funext y
  show tile1 V c 3 t y = _
  blk_ext [tile1, idx1 t]
theorem feed_bias (t : Fin cfg1.N) : (feed V c t).bias = V c main_call0_v2 := by
  funext y
  show tile1 V c 4 t y = _
  blk_ext [tile1, idx1 t]

theorem lt64 (t : Fin cfg1.N) : t.val < 64 := Nat.lt_of_lt_of_eq t.isLt N_1

theorem feed_xl (t : Fin cfg1.N) (b : Fin 8) (n : Fin 9216) : (feed V c t).xl (ix2 b n)
    = (V c main_call0_v21 : FVec Ideal S8x589824 .bf16) (ix2 b ⟨min (t.val + 1) 63 * 9216 + n.val, by omega⟩) := by
  show tile1 V c 1 t (ix2 b n) = _
  blk_ext [tile1, idx1 t]
theorem feed_xr (t : Fin cfg1.N) (b : Fin 8) (n : Fin 9216) : (feed V c t).xr (ix2 b n)
    = (V c main_call0_v21 : FVec Ideal S8x589824 .bf16) (ix2 b ⟨t.val * 9216 + n.val, by have := lt64 t; omega⟩) := by
  show tile1 V c 2 t (ix2 b n) = _
  blk_ext [tile1, idx1 t]

theorem out_final : (fc V c).arrAt 3 cfg2.N = outVec (V c main_call0_v22) (V c main_arg8) (V c main_call0_v3) := by
  refine (fc V c).arrAt_eq_of_after_last 3 t2_0 (by decide +kernel) _ fun j => ?_
  blk_simp
  rw [fc_after3]
  have e0 : tile2 V c 0 t2_0 = V c main_call0_v22 := by funext y; blk_ext [tile2, idx2 t2_0]
  have e1 : tile2 V c 1 t2_0 = V c main_arg8 := by funext y; blk_ext [tile2, idx2 t2_0]
  have e2 : tile2 V c 2 t2_0 = V c main_call0_v3 := by funext y; blk_ext [tile2, idx2 t2_0]
  rw [e0, e1, e2]
  try blk_ext [idx2 t2_0]

end Cert.Lstm
-- ==== Proof.KHost.lean ====
/-
  What the kernel's host operations leave, over the extended reals: the input as one matrix, the summed biases, the bounds
  of every row's steps, and the projected input laid out by time step.
-/
module

public import proofs.«01_k».proof.Proof.KArrays
public import Idealize.ShloMosaic.Lib.StableHlo.RunRead
public import Idealize.ShloMosaic.Lib.StableHlo.ReadAt

@[expose] public section

set_option maxRecDepth 16384

noncomputable section

namespace Cert.Lstm

open Cert.KernelIdeal Cert.KernelIdeal.Gen
open Idealize.ShloMosaic Idealize.ShloMosaic.TcCoe
open Idealize.ShloMosaic.StableHlo (after)

variable (V : Valuation τ sig (Elt Ideal))

theorem host_x (b : Fin 8) (t : Fin 64) (k : Fin 2304) :
    (after hostOps0 V (Proc.devRef .tc main_call0_v0) : FVec Ideal S512x2304 .f32) (ix2 ⟨b.val * 64 + t.val, by omega⟩ k)
      = (V (Proc.devRef .tc main_arg0) : FVec Ideal S8x64x2304 .f32) (ix3 b t k) := by
  after_reads_at

theorem host_bias (n : Fin 9216) :
    (after hostOps0 V (Proc.devRef .tc main_call0_v2) : FVec Ideal S1x9216 .f32) (ix2 0 n)
      = addf (F := Ideal) (φ := .f32) (V (Proc.devRef .tc main_arg6) : FVec Ideal S9216 .f32) (V (Proc.devRef .tc main_arg7) : FVec Ideal S9216 .f32) (ix1 n) := by
  after_reads_at

theorem host_bout (j : Fin 768) :
    (after hostOps0 V (Proc.devRef .tc main_call0_v3) : FVec Ideal S1x768 .f32) (ix2 0 j)
      = (V (Proc.devRef .tc main_arg9) : FVec Ideal S768 .f32) (ix1 j) := by
  after_reads_at

/-- The bounds table. -/
abbrev bounds : IVec S16x128 32 := after hostOps0 V (Proc.devRef .tc main_call0_v19)

/-- The table's columns. -/
abbrev columnLo : IVec S16x1 32 := broadcastInDim S16x1 ![0] bcast_S16_S16x1_0 (concatenate S16 0
  [⟨S8, broadcastInDim S8 ![] bcast_S_S8 (constantI S_ 32 0#32)⟩, ⟨S8, (V (Proc.devRef .tc main_arg3) : IVec S8 32)⟩] concatenates_S8_S8_S16_d0)
abbrev columnHi : IVec S16x1 32 := broadcastInDim S16x1 ![0] bcast_S16_S16x1_0 (concatenate S16 0
  [⟨S8, maxsi (subi (V (Proc.devRef .tc main_arg2) : IVec S8 32) (broadcastInDim S8 ![] bcast_S_S8 (constantI S_ 32 1#32)))
      (broadcastInDim S8 ![] bcast_S_S8 (constantI S_ 32 1#32))⟩,
   ⟨S8, broadcastInDim S8 ![] bcast_S_S8 (constantI S_ 32 64#32)⟩] concatenates_S8_S8_S16_d0)
abbrev columnHx : IVec S16x1 32 := broadcastInDim S16x1 ![0] bcast_S16_S16x1_0 (concatenate S16 0
  [⟨S8, subi (V (Proc.devRef .tc main_arg2) : IVec S8 32) (broadcastInDim S8 ![] bcast_S_S8 (constantI S_ 32 1#32))⟩,
   ⟨S8, broadcastInDim S8 ![] bcast_S_S8 (constantI S_ 32 64#32)⟩] concatenates_S8_S8_S16_d0)

theorem columnLo_eq : StableHlo.upto hostOps0 V 23 (Proc.devRef .tc main_call0_v15) = columnLo V := by
  funext y
  idx_vars y
  after_reads_at
  after_reads_at
theorem columnHi_eq : StableHlo.upto hostOps0 V 23 (Proc.devRef .tc main_call0_v16) = columnHi V := by
  funext y
  idx_vars y
  after_reads_at
  after_reads_at
theorem columnHx_eq : StableHlo.upto hostOps0 V 23 (Proc.devRef .tc main_call0_v17) = columnHx V := by
  funext y
  idx_vars y
  after_reads_at
  after_reads_at

/-- The table: three columns of words, then padding. -/
theorem bounds_eq : bounds V = pad (α := BitVec 32) S16x128 ![0, 0] ![0, 125] ![0, 0]
    (concatenate S16x3 1 [⟨S16x1, columnLo V⟩, ⟨S16x1, columnHi V⟩, ⟨S16x1, columnHx V⟩]
      concatenates_S16x1_S16x1_S16x1_S16x3_d1) (constantI S_ 32 0#32) pads_S16x3_S16x128_000_01250 h_S_ := by
  rw [← columnLo_eq, ← columnHi_eq, ← columnHx_eq]
  unfold bounds
  after_reads_simp
  simp -implicitDefEqProofs only [StableHlo.TRef.toBuf, StableHlo.TRef.ofBuf, cast_cast, cast_eq, id]
  rfl

/-- A row's first step. -/
theorem bounds_lo (r : Fin 16) : bounds V (ix2 r 0)
    = if h : r.val < 8 then 0#32 else (V (Proc.devRef .tc main_arg3) : IVec S8 32) (ix1 ⟨r.val - 8, by omega⟩) := by
  rw [bounds_eq]
  pointwise
/-- The end of a row's steps. -/
theorem bounds_hi (r : Fin 16) : bounds V (ix2 r 1)
    = if h : r.val < 8 then IntOp.maxsi (IntOp.subi ((V (Proc.devRef .tc main_arg2) : IVec S8 32) (ix1 ⟨r.val, h⟩)) 1#32) 1#32 else 64#32 := by
  rw [bounds_eq]
  pointwise
/-- The end of a row's steps that are fed an input. -/
theorem bounds_hx (r : Fin 16) : bounds V (ix2 r 2)
    = if h : r.val < 8 then IntOp.subi ((V (Proc.devRef .tc main_arg2) : IVec S8 32) (ix1 ⟨r.val, h⟩)) 1#32 else 64#32 := by
  rw [bounds_eq]
  pointwise

theorem host_gx (b : Fin 8) (t : Fin 64) (n : Fin 9216) :
    (after hostOps1 V (Proc.devRef .tc main_call0_v21) : FVec Ideal S8x589824 .bf16) (ix2 b ⟨t.val * 9216 + n.val, by omega⟩)
      = (V (Proc.devRef .tc main_call0_v20_0) : FVec Ideal S512x9216 .bf16) (ix2 ⟨b.val * 64 + t.val, by omega⟩ n) := by
  after_reads_at
  pointwise
  blk_ext

end Cert.Lstm
-- ==== Proof.Cell.lean ====
/-
  One LSTM step of one row over the extended reals, and a row's run of steps. Both programs' results are read as these.
-/
module

public import Idealize.ShloMosaic.Lib.Pointwise
public import Idealize.ShloMosaic.Lib.Tactic.WordOmega

@[expose] public section

noncomputable section

namespace Cert.Cell

open Idealize.ShloMosaic

/-- A row of the hidden state, of the cell state or of the input. -/
abbrev Row : Type := Fin 2304 → EReal
/-- The hidden and the cell state of a row. -/
abbrev State : Type := Row × Row

/-- The weights and the two biases: the gates' rows in the order input, forget, candidate, output. -/
structure Weights where
  wih : Fin 9216 → Row
  whh : Fin 9216 → Row
  bih : Fin 9216 → EReal
  bhh : Fin 9216 → EReal

/-- The weights held in arrays. -/
def weights (wih whh : FVec Ideal ⟨2, ![9216, 2304]⟩ .f32) (bih bhh : FVec Ideal ⟨1, ![9216]⟩ .f32) : Weights :=
  ⟨fun j k => wih (ix2 j k), fun j k => whh (ix2 j k), fun j => bih (ix1 j), fun j => bhh (ix1 j)⟩

/-- Row `b` of a table. -/
def rowOf {n : ℕ} (x : FVec Ideal ⟨2, ![n, 2304]⟩ .f32) (b : Fin n) : Row := fun d => x (ix2 b d)

/-- Where coordinate `d` of each gate lies. -/
abbrev inputAt (d : Fin 2304) : Fin 9216 := ⟨d.val, by omega⟩
abbrev forgetAt (d : Fin 2304) : Fin 9216 := ⟨2304 + d.val, by omega⟩
abbrev candAt (d : Fin 2304) : Fin 9216 := ⟨4608 + d.val, by omega⟩
abbrev outAt (d : Fin 2304) : Fin 9216 := ⟨6912 + d.val, by omega⟩

/-- The gates before their nonlinearities. -/
def gates (w : Weights) (x h : Row) : Fin 9216 → EReal :=
  fun n => ∑ k, x k * w.wih n k + ∑ k, h k * w.whh n k + w.bih n + w.bhh n

/-- The new cell state from the gates and the old one. -/
def newCell (z : Fin 9216 → EReal) (c : Row) : Row :=
  fun d => Ideal.logistic (z (forgetAt d)) * c d + Ideal.logistic (z (inputAt d)) * Ideal.tanh (z (candAt d))

/-- The new hidden state from the gates and the old cell state. -/
def newHid (z : Fin 9216 → EReal) (c : Row) : Row :=
  fun d => Ideal.logistic (z (outAt d)) * Ideal.tanh (newCell z c d)

/-- The step on input `x`. -/
def step (w : Weights) (x : Row) (s : State) : State := (newHid (gates w x s.1) s.2, newCell (gates w x s.1) s.2)

/-- The state after `k` trips over the inputs `x`, of which the first `len` are steps and the others change nothing. -/
def run (w : Weights) (x : ℕ → Row) (len : ℤ) : ℕ → State
  | 0 => (fun _ => 0, fun _ => 0)
  | k + 1 => if (k : ℤ) < len then step w (x k) (run w x len k) else run w x len k

/-! ## The words that bound a row's steps -/

theorem toInt_small (n : ℕ) (hn : n ≤ 64) : (BitVec.ofNat 32 n).toInt = n := by
  rw [BitVec.toInt_eq_toNat_of_lt (by rw [BitVec.toNat_ofNat]; omega), BitVec.toNat_ofNat]; omega

/-- A choice on `n < w`. -/
theorem select_slt (n : ℕ) (hn : n ≤ 64) (w : BitVec 32) (a b : EReal) :
    Scalar.select (IntOp.cmpi .slt (BitVec.ofNat 32 n) w) a b = if (n : ℤ) < w.toInt then a else b := by
  rw [← toInt_small n hn]
  unfold Scalar.select IntOp.cmpi
  by_cases h : (BitVec.ofNat 32 n).toInt < w.toInt
  · simp [BitVec.slt, h]
  · simp [BitVec.slt, h]

/-- A choice on `lo ≤ n < w`. -/
theorem select_range (n : ℕ) (hn : n ≤ 64) (lo w : BitVec 32) (a b : EReal) :
    Scalar.select (IntOp.andi (IntOp.cmpi .sle lo (BitVec.ofNat 32 n)) (IntOp.cmpi .slt (BitVec.ofNat 32 n) w)) a b
      = if lo.toInt ≤ n ∧ (n : ℤ) < w.toInt then a else b := by
  rw [← toInt_small n hn]
  unfold Scalar.select IntOp.cmpi IntOp.andi
  by_cases h : (BitVec.ofNat 32 n).toInt < w.toInt <;> by_cases h' : lo.toInt ≤ (BitVec.ofNat 32 n).toInt
  all_goals simp [BitVec.slt, BitVec.sle, h, h']

theorem toInt_subi (a b : BitVec 32) (h : -2147483648 ≤ a.toInt - b.toInt) (h' : a.toInt - b.toInt < 2147483648) :
    (IntOp.subi a b).toInt = a.toInt - b.toInt := by
  show (a - b).toInt = _
  rw [BitVec.toInt_sub]
  exact Int.bmod_eq_of_le (by omega) (by omega)

theorem toInt_addi (a b : BitVec 32) (h : -2147483648 ≤ a.toInt + b.toInt) (h' : a.toInt + b.toInt < 2147483648) :
    (IntOp.addi a b).toInt = a.toInt + b.toInt := by
  show (a + b).toInt = _
  rw [BitVec.toInt_add]
  exact Int.bmod_eq_of_le (by omega) (by omega)

/-- One less than a word between 0 and 64. -/
theorem toInt_pred (w : BitVec 32) (h0 : 0 ≤ w.toInt) (h1 : w.toInt ≤ 64) : (IntOp.subi w 1#32).toInt = w.toInt - 1 :=
  toInt_subi w 1#32 (by simp; omega) (by simp; omega)

/-- A choice of words on `a > b`. -/
theorem toInt_select_sgt (a b x y : BitVec 32) :
    (Scalar.select (IntOp.cmpi .sgt a b) x y).toInt = if b.toInt < a.toInt then x.toInt else y.toInt := by
  unfold Scalar.select IntOp.cmpi
  by_cases h : b.toInt < a.toInt
  · simp [BitVec.slt, h]
  · simp [BitVec.slt, h]

/-- The larger of one less than a word and 1. -/
theorem toInt_pred_max (w : BitVec 32) (h0 : 0 ≤ w.toInt) (h1 : w.toInt ≤ 64) :
    (Scalar.select (IntOp.cmpi .sgt w 1#32) (IntOp.subi w 1#32) 1#32).toInt = max (w.toInt - 1) 1 := by
  rw [toInt_select_sgt, toInt_pred w h0 h1, show (1#32 : BitVec 32).toInt = 1 by decide]
  split <;> omega

theorem toInt_max_pred (w : BitVec 32) (h0 : 0 ≤ w.toInt) (h1 : w.toInt ≤ 64) :
    (IntOp.maxsi (IntOp.subi w 1#32) 1#32).toInt = max (w.toInt - 1) 1 := by
  have e := toInt_pred w h0 h1
  have e1 : (1#32 : BitVec 32).toInt = 1 := by decide
  unfold IntOp.maxsi
  simp only [BitVec.slt, BitVec.sle]
  split <;> simp_all <;> omega

/-! ## The two halves' inputs -/

/-- The input of step `t` in the rows that read the steps before `s`, one step late. -/
def leftInput (x : Fin 64 → Row) (s : ℤ) (t : ℕ) : Row :=
  fun k => if (t : ℤ) < s - 1 then x ⟨min (t + 1) 63, by omega⟩ k else 0

/-- The input of step `t` in the rows that read from step `e` on. -/
def rightInput (x : Fin 64 → Row) (e : ℤ) (t : ℕ) : Row :=
  fun k => if (t : ℤ) < 64 - e then x ⟨min (t + e.toNat) 63, by omega⟩ k else 0

/-! ## The end of a row's steps, and the last layer -/

/-- Past its length a run stays. -/
theorem run_stay (w : Weights) (x : ℕ → Row) (len : ℤ) (k : ℕ) (hk : len ≤ k) : ∀ j, run w x len (k + j) = run w x len k
  | 0 => rfl
  | j + 1 => by
    exact (if_neg (by omega) : run w x len ((k + j) + 1) = run w x len (k + j)).trans (run_stay w x len k hk j)

/-- The last linear layer on two joined hidden rows. -/
def layer (w : FVec Ideal ⟨2, ![768, 4608]⟩ .f32) (bias : FVec Ideal ⟨1, ![768]⟩ .f32) (x y : Row) (j : Fin 768) : EReal :=
  ∑ k : Fin 4608, (if h : k.val < 2304 then x ⟨k.val, h⟩ else y ⟨k.val - 2304, by omega⟩) * w (ix2 j k) + bias (ix1 j)

end Cert.Cell
-- ==== Proof.KStep.lean ====
/-
  One step of the recurrence kernel over the extended reals: every row of its state takes an LSTM step on its own input when the
  time step is within the row's bounds, and is kept otherwise.
-/
module

public import proofs.«01_k».proof.Proof.Recurrence
public import proofs.«01_k».proof.Proof.Cell
public import Idealize.ShloMosaic.Lib.Pointwise

@[expose] public section

set_option maxRecDepth 16384

noncomputable section

namespace Cert.Lstm

open Cert.KernelIdeal Cert.KernelIdeal.Gen
open Idealize.ShloMosaic Idealize.ShloMosaic.TcCoe

variable (g : Feed Ideal) (i : grid1.Coords) (s : Vec Ideal S16x2304 .f32 × Vec Ideal S16x2304 .f32) (r : Fin 16)

/-- The hidden and the cell state of row `r`. -/
def rowState : Cell.State := (Cell.rowOf (n := 16) s.1 r, Cell.rowOf (n := 16) s.2 r)

/-- Row `r`'s projected input: the upper rows read one table, the lower ones another. -/
def projected (n : Fin 9216) : EReal := if h : r.val < 8 then g.xl (ix2 ⟨r.val, h⟩ n) else g.xr (ix2 ⟨r.val - 8, by omega⟩ n)

/-- Row `r`'s gates before their nonlinearities. -/
def rowGates (n : Fin 9216) : EReal :=
  Scalar.select (IntOp.andi (IntOp.cmpi .sle (g.bnd (ix2 r 0)) (BitVec.ofNat 32 (i 0).val)) (IntOp.cmpi .slt (BitVec.ofNat 32 (i 0).val) (g.bnd (ix2 r 2))))
      (projected g r n) 0
    + g.bias (ix2 0 n) + ∑ k : Fin 2304, s.1 (ix2 r k) * g.wh (ix2 k n)

/-- Whether step `i` changes row `r`. -/
abbrev rowActive : BitVec 1 :=
  IntOp.andi (IntOp.cmpi .sle (g.bnd (ix2 r 0)) (BitVec.ofNat 32 (i 0).val)) (IntOp.cmpi .slt (BitVec.ofNat 32 (i 0).val) (g.bnd (ix2 r 1)))

theorem step_hid (d : Fin 2304) : (g.step i s).1 (ix2 r d)
    = Scalar.select (rowActive g i r) (Cell.newHid (rowGates g i s r) (Cell.rowOf (n := 16) s.2 r) d) (s.1 (ix2 r d)) := by
  obtain ⟨bnd, xl, xr, wh, bias⟩ := g
  obtain ⟨hs, cs⟩ := s
  pointwise [Feed.step, Feed.mask, Feed.pre, k1_pay1, k1_pay2, k1_pay3, k1_pay4, k1_pay7, k1_pay8, k1_pay9, k1_pay10, rowActive, rowGates,
    projected, Cell.newHid, Cell.newCell, Cell.rowOf]

theorem step_cell (d : Fin 2304) : (g.step i s).2 (ix2 r d)
    = Scalar.select (rowActive g i r) (Cell.newCell (rowGates g i s r) (Cell.rowOf (n := 16) s.2 r) d) (s.2 (ix2 r d)) := by
  obtain ⟨bnd, xl, xr, wh, bias⟩ := g
  obtain ⟨hs, cs⟩ := s
  pointwise [Feed.step, Feed.mask, Feed.pre, k1_pay1, k1_pay2, k1_pay3, k1_pay4, k1_pay7, k1_pay8, k1_pay9, k1_pay10, rowActive, rowGates,
    projected, Cell.newCell, Cell.rowOf]

/-- Row `r`'s gates are those of an LSTM step on the row's input, or on zeros when the step is past it. -/
theorem rowGates_eq (w : Cell.Weights) (x : Cell.Row) (hi : (i 0).val ≤ 64)
    (hw : ∀ k n, g.wh (ix2 k n) = w.whh n k) (hb : ∀ n, g.bias (ix2 0 n) = w.bih n + w.bhh n)
    (hx : ∀ n, projected g r n = ∑ k, x k * w.wih n k) :
    rowGates g i s r = Cell.gates w
      (fun k => if (g.bnd (ix2 r 0)).toInt ≤ (i 0).val ∧ ((i 0).val : ℤ) < (g.bnd (ix2 r 2)).toInt then x k else 0) (Cell.rowOf (n := 16) s.1 r) := by
  funext n
  unfold rowGates Cell.gates Cell.rowOf
  rw [Cell.select_range _ hi, hb, hx]
  simp only [hw]
  by_cases h : (g.bnd (ix2 r 0)).toInt ≤ (i 0).val ∧ ((i 0).val : ℤ) < (g.bnd (ix2 r 2)).toInt
  · simp only [if_pos h]
    abel
  · simp only [if_neg h, zero_mul, Finset.sum_const_zero]
    abel

/-- What step `i` does to row `r`. -/
theorem step_row (w : Cell.Weights) (x : Cell.Row) (hi : (i 0).val ≤ 64)
    (hw : ∀ k n, g.wh (ix2 k n) = w.whh n k) (hb : ∀ n, g.bias (ix2 0 n) = w.bih n + w.bhh n)
    (hx : ∀ n, projected g r n = ∑ k, x k * w.wih n k) :
    rowState (g.step i s) r = if (g.bnd (ix2 r 0)).toInt ≤ (i 0).val ∧ ((i 0).val : ℤ) < (g.bnd (ix2 r 1)).toInt then
        Cell.step w (fun k => if (g.bnd (ix2 r 0)).toInt ≤ (i 0).val ∧ ((i 0).val : ℤ) < (g.bnd (ix2 r 2)).toInt then x k else 0) (rowState s r)
      else rowState s r := by
  have e1 : (rowState (g.step i s) r).1 = fun d => if (g.bnd (ix2 r 0)).toInt ≤ (i 0).val ∧ ((i 0).val : ℤ) < (g.bnd (ix2 r 1)).toInt then
      Cell.newHid (rowGates g i s r) (Cell.rowOf (n := 16) s.2 r) d else s.1 (ix2 r d) :=
    funext fun d => (step_hid g i s r d).trans (Cell.select_range _ hi ..)
  have e2 : (rowState (g.step i s) r).2 = fun d => if (g.bnd (ix2 r 0)).toInt ≤ (i 0).val ∧ ((i 0).val : ℤ) < (g.bnd (ix2 r 1)).toInt then
      Cell.newCell (rowGates g i s r) (Cell.rowOf (n := 16) s.2 r) d else s.2 (ix2 r d) :=
    funext fun d => (step_cell g i s r d).trans (Cell.select_range _ hi ..)
  rw [rowGates_eq g i s r w x hi hw hb hx] at e1 e2
  by_cases h : (g.bnd (ix2 r 0)).toInt ≤ (i 0).val ∧ ((i 0).val : ℤ) < (g.bnd (ix2 r 1)).toInt
  · rw [if_pos h]
    simp only [if_pos h] at e1 e2
    exact Prod.ext e1 e2
  · rw [if_neg h]
    simp only [if_neg h] at e1 e2
    exact Prod.ext e1 e2

end Cert.Lstm
-- ==== Proof.KValue.lean ====
/-
  The kernel's result over the extended reals: the upper rows of its recurrence run the left span of every batch row, the
  lower ones the right span, and the output joins their hidden states and applies the last linear layer.
-/
module

public import proofs.«01_k».proof.Proof.Run
public import proofs.«01_k».proof.Proof.KHost
public import proofs.«01_k».proof.Proof.KStep

@[expose] public section

set_option maxRecDepth 16384

noncomputable section

namespace Cert.Lstm

open Cert.KernelIdeal Cert.KernelIdeal.Gen
open Idealize.ShloMosaic Idealize.ShloMosaic.TcCoe
open Idealize.ShloMosaic.StableHlo (after)

variable (m : (ℓ : Loc nD τ sig) → Buf (Elt Ideal) ℓ) (c : Dev nD)

/-- The input row of batch row `b` at every time step. -/
def feats (b : Fin 8) : Fin 64 → Cell.Row := fun t k => (m ((c : Thread nD τ).loc main_arg0) : FVec Ideal S8x64x2304 .f32) (ix3 b t k)
/-- The start and the end of the span of batch row `b`. -/
def startOf (b : Fin 8) : BitVec 32 := (m ((c : Thread nD τ).loc main_arg2) : IVec S8 32) (ix1 b)
def endOf (b : Fin 8) : BitVec 32 := (m ((c : Thread nD τ).loc main_arg3) : IVec S8 32) (ix1 b)
/-- The weights among the arguments. -/
def argWeights : Cell.Weights := Cell.weights (m ((c : Thread nD τ).loc main_arg4)) (m ((c : Thread nD τ).loc main_arg5))
  (m ((c : Thread nD τ).loc main_arg6)) (m ((c : Thread nD τ).loc main_arg7))

/-! ## The arrays the recurrence is entered with -/

theorem W3_of_in (r : Ref sig .tc) (h1 : r ∉ hostOps1_W)
    (h2 : ∀ w : Fin cfg0.W, Pipeline.arrRef spec0 w = r → (cfg0.win w).isOut = false) :
    W3 m c (Proc.devRef .tc r) = W1 m c (Proc.devRef .tc r) := (W3_of m c r h1).trans (W2_of m c r h2)

theorem in_bnd (t : Fin cfg1.N) : (feed (bufs (W3 m)) c t).bnd = bounds (W0 m c) := by
  rw [feed_bnd]
  exact W3_of_in m c main_call0_v19 (by decide +kernel) (by decide +kernel)

theorem in_bias (t : Fin cfg1.N) (n : Fin 9216) :
    (feed (bufs (W3 m)) c t).bias (ix2 0 n) = (argWeights m c).bih n + (argWeights m c).bhh n := by
  rw [feed_bias]
  refine (congrFun (W3_of_in m c main_call0_v2 (by decide +kernel) (by decide +kernel)) _).trans ?_
  exact host_bias (W0 m c) n

theorem in_wh (t : Fin cfg1.N) (k : Fin 2304) (n : Fin 9216) :
    (feed (bufs (W3 m)) c t).wh (ix2 k n) = (argWeights m c).whh n k := by
  rw [feed_wh]
  refine (congrFun ((W3_of m c main_call0_v20_1 (by decide +kernel)).trans (W2_arr m c 4)) _).trans ?_
  rw [wht_final]
  exact congrFun (W1_of m c main_arg5 (by decide +kernel)) _

theorem gx_at (V : Bufs Ideal) (i : Fin 512) (n : Fin 9216) : ((proj V c).arrAt 3 cfg0.N : FVec Ideal S512x9216 .bf16) (ix2 i n)
    = ∑ k : Fin 2304, HMul.hMul (α := EReal) (β := EReal) (γ := EReal) ((V c main_call0_v0 : FVec Ideal S512x2304 .f32) (ix2 i k))
        ((V c main_arg4 : FVec Ideal S9216x2304 .f32) (ix2 n k)) := by
  rw [gx_final]
  rfl

theorem in_gx (b : Fin 8) (t : Fin 64) (n : Fin 9216) :
    (bufs (W3 m) c main_call0_v21 : FVec Ideal S8x589824 .bf16) (ix2 b ⟨t.val * 9216 + n.val, by omega⟩)
      = ∑ k, feats m c b t k * (argWeights m c).wih n k := by
  refine (host_gx (W2 m c) b t n).trans ?_
  have e : ∀ k : Fin 2304, HMul.hMul (α := EReal) (β := EReal) (γ := EReal)
        ((bufs (W1 m) c main_call0_v0 : FVec Ideal S512x2304 .f32) (ix2 ⟨b.val * 64 + t.val, by omega⟩ k))
        ((bufs (W1 m) c main_arg4 : FVec Ideal S9216x2304 .f32) (ix2 n k))
      = feats m c b t k * (argWeights m c).wih n k := fun k =>
    congrArg₂ (HMul.hMul (α := EReal) (β := EReal) (γ := EReal)) (host_x (W0 m c) b t k)
      (congrFun (W1_of m c main_arg4 (by decide +kernel)) (ix2 n k))
  exact (congrFun (W2_arr m c 3) _).trans ((gx_at c (bufs (W1 m)) _ n).trans
    (congrArg (fun f : Fin 2304 → EReal => ∑ k, f k) (funext e)))

/-! ## The rows' states -/

/-- The row of the kernel's state that runs batch row `b`'s left span, and the one that runs its right span. -/
abbrev upper (b : Fin 8) : Fin 16 := ⟨b.val, by omega⟩
abbrev lower (b : Fin 8) : Fin 16 := ⟨8 + b.val, by omega⟩

theorem upper_lt (b : Fin 8) : (upper b).val < 8 := b.isLt
theorem lower_ge (b : Fin 8) : ¬ (lower b).val < 8 := Nat.not_lt.mpr (Nat.le_add_right 8 b.val)

theorem in_upper (b : Fin 8) (t : Fin cfg1.N) (n : Fin 9216) : projected (feed (bufs (W3 m)) c t) (upper b) n
    = ∑ k, feats m c b ⟨min (t.val + 1) 63, by omega⟩ k * (argWeights m c).wih n k := by
  unfold projected
  rw [dif_pos (upper_lt b)]
  exact (feed_xl (bufs (W3 m)) c t b n).trans (in_gx m c b ⟨min (t.val + 1) 63, by omega⟩ n)

theorem in_lower (b : Fin 8) (t : Fin cfg1.N) (n : Fin 9216) : projected (feed (bufs (W3 m)) c t) (lower b) n
    = ∑ k, feats m c b ⟨t.val, lt64 t⟩ k * (argWeights m c).wih n k := by
  unfold projected
  rw [dif_neg (lower_ge b), show (⟨(lower b).val - 8, by omega⟩ : Fin 8) = b from Fin.ext (by simp)]
  exact (feed_xr (bufs (W3 m)) c t b n).trans (in_gx m c b ⟨t.val, lt64 t⟩ n)

theorem start_row (r : Fin 16) : rowState (start (F := Ideal)) r = (fun _ => 0, fun _ => 0) := by
  refine Prod.ext (funext fun d => ?_) (funext fun d => ?_)
  all_goals
    simp only [rowState, start, Cell.rowOf]
    pointwise [k1_pay5, k1_pay6]

/-- After `n` steps row `b` holds the left span's state. -/
theorem state_upper (b : Fin 8) (h0 : 0 ≤ (startOf m c b).toInt) (h1 : (startOf m c b).toInt ≤ 64) : ∀ n : ℕ, n ≤ 64 →
    rowState (state (bufs (W3 m)) c n) (upper b) = Cell.run (argWeights m c) (Cell.leftInput (feats m c b) (startOf m c b).toInt)
      (max ((startOf m c b).toInt - 1) 1) n
  | 0, _ => start_row _
  | n + 1, hn => by
    have ih := state_upper b h0 h1 n (by omega)
    have hN : n < cfg1.N := Nat.lt_of_lt_of_eq (by omega) N_1.symm
    have hlo : (bounds (W0 m c) (ix2 (upper b) 0)).toInt = 0 := by
      rw [bounds_lo, dif_pos (upper_lt b)]; rfl
    have hx : (bounds (W0 m c) (ix2 (upper b) 2)).toInt = (startOf m c b).toInt - 1 := by
      rw [bounds_hx, dif_pos (upper_lt b)]
      exact Cell.toInt_pred _ h0 h1
    have hhi : (bounds (W0 m c) (ix2 (upper b) 1)).toInt = max ((startOf m c b).toInt - 1) 1 := by
      rw [bounds_hi, dif_pos (upper_lt b)]
      exact Cell.toInt_max_pred _ h0 h1
    refine (congrArg (fun s => rowState s (upper b)) (state_succ (bufs (W3 m)) c ⟨n, hN⟩)).trans ?_
    have hc : (grid1.coords ⟨n, hN⟩ 0).val = n := coord1 ⟨n, hN⟩
    refine (step_row _ _ _ (upper b) (argWeights m c) (feats m c b ⟨min (n + 1) 63, by omega⟩) (by omega)
      (in_wh m c ⟨n, hN⟩) (in_bias m c ⟨n, hN⟩) (in_upper m c b ⟨n, hN⟩)).trans ?_
    rw [in_bnd, hc, hlo, hx, hhi, ih]
    have e : (fun k => if (0 : ℤ) ≤ (n : ℤ) ∧ (n : ℤ) < (startOf m c b).toInt - 1 then feats m c b ⟨min (n + 1) 63, by omega⟩ k else 0)
        = Cell.leftInput (feats m c b) (startOf m c b).toInt n :=
      funext fun k => if_congr (and_iff_right (by omega)) rfl rfl
    rw [e]
    exact if_congr (and_iff_right (by omega)) rfl rfl

/-- After `n` steps row `8 + b` holds the right span's state after the steps from its end on. -/
theorem state_lower (b : Fin 8) (h0 : 0 ≤ (endOf m c b).toInt) (h1 : (endOf m c b).toInt ≤ 63) : ∀ n : ℕ, n ≤ 64 →
    rowState (state (bufs (W3 m)) c n) (lower b) = Cell.run (argWeights m c) (Cell.rightInput (feats m c b) (endOf m c b).toInt)
      (64 - (endOf m c b).toInt) (n - (endOf m c b).toInt.toNat)
  | 0, _ => by rw [Nat.zero_sub]; exact start_row _
  | n + 1, hn => by
    have ih := state_lower b h0 h1 n (by omega)
    have hN : n < cfg1.N := Nat.lt_of_lt_of_eq (by omega) N_1.symm
    have hlo : (bounds (W0 m c) (ix2 (lower b) 0)).toInt = (endOf m c b).toInt := by
      rw [bounds_lo, dif_neg (lower_ge b), show (⟨(lower b).val - 8, by omega⟩ : Fin 8) = b from Fin.ext (by simp)]; rfl
    have hx : (bounds (W0 m c) (ix2 (lower b) 2)).toInt = 64 := by
      rw [bounds_hx, dif_neg (lower_ge b)]; rfl
    have hhi : (bounds (W0 m c) (ix2 (lower b) 1)).toInt = 64 := by
      rw [bounds_hi, dif_neg (lower_ge b)]; rfl
    refine (congrArg (fun s => rowState s (lower b)) (state_succ (bufs (W3 m)) c ⟨n, hN⟩)).trans ?_
    have hc : (grid1.coords ⟨n, hN⟩ 0).val = n := coord1 ⟨n, hN⟩
    refine (step_row _ _ _ (lower b) (argWeights m c) (feats m c b ⟨n, by omega⟩) (by omega)
      (in_wh m c ⟨n, hN⟩) (in_bias m c ⟨n, hN⟩) (in_lower m c b ⟨n, hN⟩)).trans ?_
    rw [in_bnd, hc, hlo, hx, hhi, ih]
    by_cases h : (endOf m c b).toInt ≤ n
    · rw [if_pos ⟨h, by omega⟩, show n + 1 - (endOf m c b).toInt.toNat = (n - (endOf m c b).toInt.toNat) + 1 by omega]
      have e : (fun k => if (endOf m c b).toInt ≤ (n : ℤ) ∧ (n : ℤ) < 64 then feats m c b ⟨n, by omega⟩ k else 0)
          = Cell.rightInput (feats m c b) (endOf m c b).toInt (n - (endOf m c b).toInt.toNat) := by
        funext k
        unfold Cell.rightInput
        rw [if_pos ⟨h, by omega⟩, if_pos (by omega)]
        exact congrArg (fun t => feats m c b t k) (Fin.ext (by simp only []; omega))
      rw [e]
      exact (if_pos (by omega)).symm
    · rw [if_neg (fun g => h g.1), show n + 1 - (endOf m c b).toInt.toNat = n - (endOf m c b).toInt.toNat by omega]

/-! ## The result -/

theorem out_at (h : Vec Ideal S16x2304 .f32) (w : Vec Ideal S768x4608 .f32) (o : Vec Ideal S1x768 .f32) (bias : FVec Ideal S768 .f32)
    (ho : ∀ j, o (ix2 0 j) = bias (ix1 j)) (b : Fin 8) (j : Fin 768) :
    outVec h w o (ix2 b j) = Cell.layer w bias (Cell.rowOf (n := 16) h (upper b)) (Cell.rowOf (n := 16) h (lower b)) j := by
  unfold Cell.layer
  rw [← ho]
  pointwise [outVec, k2_pay1, Cell.rowOf]

/-- The kernel's result. -/
theorem result (b : Fin 8) (j : Fin 768) (h0 : 0 ≤ (startOf m c b).toInt) (h1 : (startOf m c b).toInt ≤ 64)
    (h2 : 0 ≤ (endOf m c b).toInt) (h3 : (endOf m c b).toInt ≤ 63) :
    (W5 m c (Proc.devRef .tc main_v0) : FVec Ideal S8x768 .f32) (ix2 b j)
      = Cell.layer (m ((c : Thread nD τ).loc main_arg8)) (m ((c : Thread nD τ).loc main_arg9))
          (Cell.run (argWeights m c) (Cell.leftInput (feats m c b) (startOf m c b).toInt) (max ((startOf m c b).toInt - 1) 1) 64).1
          (Cell.run (argWeights m c) (Cell.rightInput (feats m c b) (endOf m c b).toInt) (64 - (endOf m c b).toInt) 64).1 j := by
  have hid : bufs (W4 m) c main_call0_v22 = (state (bufs (W3 m)) c 64).1 := (W4_self m c).trans (hid_final _ c)
  have hw : bufs (W4 m) c main_arg8 = m ((c : Thread nD τ).loc main_arg8) := W4_args m c main_arg8 (by decide)
  have ho : ∀ j : Fin 768, (bufs (W4 m) c main_call0_v3 : FVec Ideal S1x768 .f32) (ix2 0 j)
      = (m ((c : Thread nD τ).loc main_arg9) : FVec Ideal S768 .f32) (ix1 j) := fun j =>
    (congrFun ((W4_of_ne m c main_call0_v3 (by decide)).trans (W3_of_in m c main_call0_v3 (by decide +kernel) (by decide +kernel))) _).trans
      (host_bout (W0 m c) j)
  have stay := Cell.run_stay (argWeights m c) (Cell.rightInput (feats m c b) (endOf m c b).toInt) (64 - (endOf m c b).toInt)
    (64 - (endOf m c b).toInt.toNat) (by omega) (endOf m c b).toInt.toNat
  rw [show 64 - (endOf m c b).toInt.toNat + (endOf m c b).toInt.toNat = 64 by omega] at stay
  rw [stay, ← state_upper m c b h0 h1 64 le_rfl, ← state_lower m c b h2 h3 64 le_rfl]
  refine (congrFun ((W5_arr m c 3).trans (out_final _ c)) _).trans ?_
  rw [out_at _ _ _ _ ho b j, hid, hw]
  rfl

end Cert.Lstm
-- ==== Proof.RStep.lean ====
/-
  One step of the reference's two loops over the extended reals: what a loop body leaves in the hidden and cell arrays of a
  batch row, as one step of the recurrence.
-/
module

public import proofs.«01_k».proof.Proof.RefRun
public import proofs.«01_k».proof.Proof.Cell
public import Idealize.ShloMosaic.Lib.Pointwise
public import Idealize.ShloMosaic.Lib.StableHlo.RunRead
public import Idealize.ShloMosaic.Lib.StableHlo.ReadAt

@[expose] public section

set_option maxRecDepth 16384

noncomputable section

namespace Cert.Reference

open Cert.ReferenceIdeal Cert.ReferenceIdeal.Gen
open Idealize.ShloMosaic Idealize.ShloMosaic.TcCoe
open Idealize.ShloMosaic.StableHlo (after atTrip held)

/-- A start index that fits is not clamped. -/
theorem clamp_at (n : ℕ) (hn : n < 64) : (min (max (BitVec.ofNat 32 n).toInt 0) ((63 : ℕ) : ℤ)).toNat = n := by
  rw [Cell.toInt_small n hn.le]; omega

variable (V : Valuation τ sig (Elt Ideal))

/-- The first loop's weights, input, lengths and state, as the contents `V` hold them. -/
def weightsL : Cell.Weights := Cell.weights (V (Proc.devRef .tc main_v20_2)) (V (Proc.devRef .tc main_v20_3))
  (V (Proc.devRef .tc main_v20_4)) (V (Proc.devRef .tc main_v20_5))
def inputL (n : Fin 64) (b : Fin 8) : Cell.Row := fun k => (V (Proc.devRef .tc main_v20_0) : FVec Ideal S64x8x2304 .f32) (ix3 n b k)
def lengthL (b : Fin 8) : ℤ := ((V (Proc.devRef .tc main_v20_6) : IVec S8 32) (ix1 b)).toInt
def stateL (b : Fin 8) : Cell.State :=
  (Cell.rowOf (n := 8) (V (Proc.devRef .tc main_v20_8)) b, Cell.rowOf (n := 8) (V (Proc.devRef .tc main_v20_9)) b)
/-- The loop is about to run step `n`. -/
structure AtL (n : ℕ) : Prop where
  lt : n < 64
  counter : V (Proc.devRef .tc main_v20_7) = fun _ => BitVec.ofNat 32 n
  steps : ∀ t : Fin 64, (V (Proc.devRef .tc main_v20_1) : IVec S64 32) (ix1 t) = BitVec.ofNat 32 t.val

set_option maxHeartbeats 2000000 in
theorem bodyL_x (n : ℕ) (h : AtL V n) (b : Fin 8) (k : Fin 2304) :
    (after bodyL V (Proc.devRef .tc main_while0b_call2_v0) : FVec Ideal S1x8x2304 .f32) (ix3 0 b k) = inputL V ⟨n, h.lt⟩ b k := by
  after_reads_at
  simp only [Host.clampedStart, Matrix.cons_val, Fin.isValue]
  after_reads_at
  refine congrArg _ ((ix3_inj ..).2 ⟨Fin.ext ?_, Fin.ext ?_, Fin.ext ?_⟩)
  · exact (congrArg (fun w : BitVec 32 => (min (max w.toInt 0) ((63 : ℕ) : ℤ)).toNat) (congrFun h.counter _)).trans (clamp_at n h.lt)
  · show (min (max (0#32).toInt 0) _).toNat + b.val = b.val
    simp
  · show (min (max (0#32).toInt 0) _).toNat + k.val = k.val
    simp

set_option maxHeartbeats 2000000 in
theorem bodyL_t (n : ℕ) (h : AtL V n) :
    (after bodyL V (Proc.devRef .tc main_while0b_call3_v0) : IVec S1 32) (ix1 0) = BitVec.ofNat 32 n := by
  refine Eq.trans ?_ (h.steps ⟨n, h.lt⟩)
  after_reads_at
  simp only [Host.clampedStart, Matrix.cons_val, Fin.isValue]
  after_reads_at
  refine congrArg _ (congrArg ix1 (Fin.ext ?_))
  exact (congrArg (fun w : BitVec 32 => (min (max w.toInt 0) ((63 : ℕ) : ℤ)).toNat) (congrFun h.counter _)).trans (clamp_at n h.lt)

set_option maxHeartbeats 2000000 in
theorem bodyL_cell (n : ℕ) (h : AtL V n) (b : Fin 8) (d : Fin 2304) :
    (after bodyL V (Proc.devRef .tc main_v20_9) : FVec Ideal S8x2304 .f32) (ix2 b d)
      = if (n : ℤ) < lengthL V b then (Cell.step (weightsL V) (inputL V ⟨n, h.lt⟩ b) (stateL V b)).2 d else (stateL V b).2 d := by
  have hx := bodyL_x V n h b
  have ht := bodyL_t V n h
  revert hx ht
  after_reads_simp
  simp -implicitDefEqProofs only [StableHlo.TRef.toBuf, StableHlo.TRef.ofBuf, cast_cast, cast_eq, id]
  generalize Host.dynamicSlice S1x8x2304 _ _ _ = X
  generalize Host.dynamicSlice S1 _ _ _ = T
  intro hx ht
  clean_types
  rw [lengthL, ← Cell.select_slt n h.lt.le]
  pointwise [Cell.step, Cell.newCell, Cell.gates, weightsL, Cell.weights, stateL, Cell.rowOf, Ideal.logistic, hx, ht]

set_option maxHeartbeats 2000000 in
theorem bodyL_hid (n : ℕ) (h : AtL V n) (b : Fin 8) (d : Fin 2304) :
    (after bodyL V (Proc.devRef .tc main_v20_8) : FVec Ideal S8x2304 .f32) (ix2 b d)
      = if (n : ℤ) < lengthL V b then (Cell.step (weightsL V) (inputL V ⟨n, h.lt⟩ b) (stateL V b)).1 d else (stateL V b).1 d := by
  have hx := bodyL_x V n h b
  have ht := bodyL_t V n h
  revert hx ht
  after_reads_simp
  simp -implicitDefEqProofs only [StableHlo.TRef.toBuf, StableHlo.TRef.ofBuf, cast_cast, cast_eq, id]
  generalize Host.dynamicSlice S1x8x2304 _ _ _ = X
  generalize Host.dynamicSlice S1 _ _ _ = T
  intro hx ht
  clean_types
  rw [lengthL, ← Cell.select_slt n h.lt.le]
  pointwise [Cell.step, Cell.newHid, Cell.newCell, Cell.gates, weightsL, Cell.weights, stateL, Cell.rowOf, Ideal.logistic, hx, ht]

theorem bodyL_state (n : ℕ) (h : AtL V n) (b : Fin 8) :
    stateL (after bodyL V) b
      = if (n : ℤ) < lengthL V b then Cell.step (weightsL V) (inputL V ⟨n, h.lt⟩ b) (stateL V b) else stateL V b := by
  refine Prod.ext (funext fun d => (bodyL_hid V n h b d).trans ?_) (funext fun d => (bodyL_cell V n h b d).trans ?_)
  · by_cases g : (n : ℤ) < lengthL V b
    · rw [if_pos g, if_pos g]
    · rw [if_neg g, if_neg g]
  · by_cases g : (n : ℤ) < lengthL V b
    · rw [if_pos g, if_pos g]
    · rw [if_neg g, if_neg g]

/-- The second loop's weights, input, lengths and state, as the contents `V` hold them. -/
def weightsR : Cell.Weights := Cell.weights (V (Proc.devRef .tc main_v44_2)) (V (Proc.devRef .tc main_v44_3))
  (V (Proc.devRef .tc main_v44_4)) (V (Proc.devRef .tc main_v44_5))
def inputR (n : Fin 64) (b : Fin 8) : Cell.Row := fun k => (V (Proc.devRef .tc main_v44_0) : FVec Ideal S64x8x2304 .f32) (ix3 n b k)
def lengthR (b : Fin 8) : ℤ := ((V (Proc.devRef .tc main_v44_6) : IVec S8 32) (ix1 b)).toInt
def stateR (b : Fin 8) : Cell.State :=
  (Cell.rowOf (n := 8) (V (Proc.devRef .tc main_v44_8)) b, Cell.rowOf (n := 8) (V (Proc.devRef .tc main_v44_9)) b)
/-- The loop is about to run step `n`. -/
structure AtR (n : ℕ) : Prop where
  lt : n < 64
  counter : V (Proc.devRef .tc main_v44_7) = fun _ => BitVec.ofNat 32 n
  steps : ∀ t : Fin 64, (V (Proc.devRef .tc main_v44_1) : IVec S64 32) (ix1 t) = BitVec.ofNat 32 t.val

set_option maxHeartbeats 2000000 in
theorem bodyR_x (n : ℕ) (h : AtR V n) (b : Fin 8) (k : Fin 2304) :
    (after bodyR V (Proc.devRef .tc main_while1b_call10_v0) : FVec Ideal S1x8x2304 .f32) (ix3 0 b k) = inputR V ⟨n, h.lt⟩ b k := by
  after_reads_at
  simp only [Host.clampedStart, Matrix.cons_val, Fin.isValue]
  after_reads_at
  refine congrArg _ ((ix3_inj ..).2 ⟨Fin.ext ?_, Fin.ext ?_, Fin.ext ?_⟩)
  · exact (congrArg (fun w : BitVec 32 => (min (max w.toInt 0) ((63 : ℕ) : ℤ)).toNat) (congrFun h.counter _)).trans (clamp_at n h.lt)
  · show (min (max (0#32).toInt 0) _).toNat + b.val = b.val
    simp
  · show (min (max (0#32).toInt 0) _).toNat + k.val = k.val
    simp

set_option maxHeartbeats 2000000 in
theorem bodyR_t (n : ℕ) (h : AtR V n) :
    (after bodyR V (Proc.devRef .tc main_while1b_call11_v0) : IVec S1 32) (ix1 0) = BitVec.ofNat 32 n := by
  refine Eq.trans ?_ (h.steps ⟨n, h.lt⟩)
  after_reads_at
  simp only [Host.clampedStart, Matrix.cons_val, Fin.isValue]
  after_reads_at
  refine congrArg _ (congrArg ix1 (Fin.ext ?_))
  exact (congrArg (fun w : BitVec 32 => (min (max w.toInt 0) ((63 : ℕ) : ℤ)).toNat) (congrFun h.counter _)).trans (clamp_at n h.lt)

set_option maxHeartbeats 2000000 in
theorem bodyR_cell (n : ℕ) (h : AtR V n) (b : Fin 8) (d : Fin 2304) :
    (after bodyR V (Proc.devRef .tc main_v44_9) : FVec Ideal S8x2304 .f32) (ix2 b d)
      = if (n : ℤ) < lengthR V b then (Cell.step (weightsR V) (inputR V ⟨n, h.lt⟩ b) (stateR V b)).2 d else (stateR V b).2 d := by
  have hx := bodyR_x V n h b
  have ht := bodyR_t V n h
  revert hx ht
  after_reads_simp
  simp -implicitDefEqProofs only [StableHlo.TRef.toBuf, StableHlo.TRef.ofBuf, cast_cast, cast_eq, id]
  generalize Host.dynamicSlice S1x8x2304 _ _ _ = X
  generalize Host.dynamicSlice S1 _ _ _ = T
  intro hx ht
  clean_types
  rw [lengthR, ← Cell.select_slt n h.lt.le]
  pointwise [Cell.step, Cell.newCell, Cell.gates, weightsR, Cell.weights, stateR, Cell.rowOf, Ideal.logistic, hx, ht]

set_option maxHeartbeats 2000000 in
theorem bodyR_hid (n : ℕ) (h : AtR V n) (b : Fin 8) (d : Fin 2304) :
    (after bodyR V (Proc.devRef .tc main_v44_8) : FVec Ideal S8x2304 .f32) (ix2 b d)
      = if (n : ℤ) < lengthR V b then (Cell.step (weightsR V) (inputR V ⟨n, h.lt⟩ b) (stateR V b)).1 d else (stateR V b).1 d := by
  have hx := bodyR_x V n h b
  have ht := bodyR_t V n h
  revert hx ht
  after_reads_simp
  simp -implicitDefEqProofs only [StableHlo.TRef.toBuf, StableHlo.TRef.ofBuf, cast_cast, cast_eq, id]
  generalize Host.dynamicSlice S1x8x2304 _ _ _ = X
  generalize Host.dynamicSlice S1 _ _ _ = T
  intro hx ht
  clean_types
  rw [lengthR, ← Cell.select_slt n h.lt.le]
  pointwise [Cell.step, Cell.newHid, Cell.newCell, Cell.gates, weightsR, Cell.weights, stateR, Cell.rowOf, Ideal.logistic, hx, ht]

theorem bodyR_state (n : ℕ) (h : AtR V n) (b : Fin 8) :
    stateR (after bodyR V) b
      = if (n : ℤ) < lengthR V b then Cell.step (weightsR V) (inputR V ⟨n, h.lt⟩ b) (stateR V b) else stateR V b := by
  refine Prod.ext (funext fun d => (bodyR_hid V n h b d).trans ?_) (funext fun d => (bodyR_cell V n h b d).trans ?_)
  · by_cases g : (n : ℤ) < lengthR V b
    · rw [if_pos g, if_pos g]
    · rw [if_neg g, if_neg g]
  · by_cases g : (n : ℤ) < lengthR V b
    · rw [if_pos g, if_pos g]
    · rw [if_neg g, if_neg g]

end Cert.Reference
-- ==== Proof.RPre.lean ====
/-
  What the reference's first host operations leave, over the extended reals: the masked input of the left span and the number
  of its steps, read from the arguments.
-/
module

public import proofs.«01_k».proof.Proof.RStep
public import Idealize.ShloMosaic.Lib.Tactic.WordOmega

@[expose] public section

set_option maxRecDepth 16384

noncomputable section

namespace Cert.Reference

open Cert.ReferenceIdeal Cert.ReferenceIdeal.Gen
open Idealize.ShloMosaic Idealize.ShloMosaic.TcCoe
open Idealize.ShloMosaic.StableHlo (after atTrip held)

variable (V : Valuation τ sig (Elt Ideal))

/-- The launch's input, step by step of batch row `b`. -/
def feats (b : Fin 8) : Fin 64 → Cell.Row := fun t k => (V (Proc.devRef .tc main_arg0) : FVec Ideal S8x64x2304 .f32) (ix3 b t k)
/-- The start and the end of the span of batch row `b`. -/
def startOf (b : Fin 8) : BitVec 32 := (V (Proc.devRef .tc main_arg2) : IVec S8 32) (ix1 b)
def endOf (b : Fin 8) : BitVec 32 := (V (Proc.devRef .tc main_arg3) : IVec S8 32) (ix1 b)
/-- The weights among the arguments. -/
def argWeights : Cell.Weights := Cell.weights (V (Proc.devRef .tc main_arg4)) (V (Proc.devRef .tc main_arg5))
  (V (Proc.devRef .tc main_arg6)) (V (Proc.devRef .tc main_arg7))

set_option maxHeartbeats 2000000 in
theorem pre_input (b : Fin 8) (h0 : 0 ≤ (startOf V b).toInt) (h1 : (startOf V b).toInt ≤ 64) (t : Fin 64) :
    inputL (after opsPre V) t b = Cell.leftInput (feats V b) (startOf V b).toInt t.val := by
  funext k
  have e := Cell.toInt_pred _ h0 h1
  have hlt : (t.val : ℤ) < (startOf V b).toInt - 1 → t.val < 63 := by omega
  unfold inputL Cell.leftInput
  rw [← e, ← Cell.select_slt t.val t.isLt.le]
  unfold startOf at e ⊢
  after_reads_at
  simp only [id]
  pointwise
  after_reads_at
  rw [Cell.select_slt t.val t.isLt.le, Cell.select_slt t.val t.isLt.le, e]
  by_cases h : (t.val : ℤ) < (startOf V b).toInt - 1
  · rw [startOf] at h
    rw [if_pos h, if_pos h]
    rw [dif_pos (hlt h)]
    exact congrArg _ ((ix3_inj ..).2 ⟨rfl, Fin.ext (by have := hlt h; show 1 + t.val = min (t.val + 1) 63; omega), rfl⟩)
  · rw [startOf] at h
    rw [if_neg h, if_neg h]

theorem pre_len (b : Fin 8) (h0 : 0 ≤ (startOf V b).toInt) (h1 : (startOf V b).toInt ≤ 64) :
    lengthL (after opsPre V) b = max ((startOf V b).toInt - 1) 1 := by
  rw [← Cell.toInt_pred_max _ h0 h1, lengthL, startOf]
  after_reads_at
  simp only [id]
  pointwise

theorem pre_steps (t : Fin 64) : (after opsPre V (Proc.devRef .tc main_v20_1) : IVec S64 32) (ix1 t) = BitVec.ofNat 32 t.val := by
  after_reads_at
  simp only [id]
  pointwise

theorem pre_state (b : Fin 8) : stateL (after opsPre V) b = (fun _ => 0, fun _ => 0) := by
  refine Prod.ext (funext fun d => ?_) (funext fun d => ?_)
  all_goals
    simp only [stateL, Cell.rowOf]
    after_reads_at
    simp only [id]
    pointwise

theorem pre_weights : weightsL (after opsPre V) = argWeights V := by
  unfold weightsL argWeights
  after_reads_simp
  simp only [id]

end Cert.Reference
-- ==== Proof.RMid.lean ====
/-
  What the reference's host operations between its loops leave, over the extended reals: the gathered and masked input of the
  right span and the number of its steps, read from the arguments.
-/
module

public import proofs.«01_k».proof.Proof.RPre
public import Idealize.ShloMosaic.Lib.Tactic.WordOmega

@[expose] public section

set_option maxRecDepth 16384

noncomputable section

namespace Cert.Reference

open Cert.ReferenceIdeal Cert.ReferenceIdeal.Gen
open Idealize.ShloMosaic Idealize.ShloMosaic.TcCoe
open Idealize.ShloMosaic.StableHlo (after atTrip held)

/-- The gather along the steps: batch row `b`, the step the index names (kept within the array), feature `k`. -/
theorem gather_at {α : Type} (x : S8x64x2304.Idx → α) (idx : IVec S8x64x1 32) (b : Fin 8) (t : Fin 64) (k : Fin 2304) :
    Host.gather gather_S8x64x2304_S8x64x1_S8x64x2304_2_1_0_0_1_2_112304 x idx (ix3 b t k)
      = x (ix3 b ⟨min (idx (ix3 b t 0)).toInt.toNat 63, by omega⟩ k) := by
  unfold Host.gather
  refine congrArg x (funext fun a => Fin.ext ?_)
  have ha : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  show GatherDims.start _ _ _ _ + GatherDims.batchCoord _ _ _ + GatherDims.offCoord _ _ _ = _
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S8x64x2304_S8x64x1_S8x64x2304_2_1_0_0_1_2_112304.operandBatchingDims from List.mem_singleton.mpr rfl)]
    rfl
  · rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8x64x2304_S8x64x1_S8x64x2304_2_1_0_0_1_2_112304.startIndexMap from List.mem_singleton.mpr rfl)]
    refine congrArg (fun j => min (idx j).toInt.toNat 63) (funext fun c => Fin.ext ?_)
    match c with
    | ⟨0, _⟩ => rfl
    | ⟨1, _⟩ => rfl
    | ⟨2, _⟩ => rfl
  · rw [GatherDims.batchCoord_eq_zero _ _ _ (show (2 : Fin 3) ∉ ([0] : List (Fin 3)) by decide)]
    unfold GatherDims.start
    rw [dif_neg (show (2 : Fin 3) ∉ gather_S8x64x2304_S8x64x1_S8x64x2304_2_1_0_0_1_2_112304.startIndexMap by decide)]
    simp only [Nat.zero_add]
    unfold GatherDims.offCoord
    rw [dif_pos ((GatherDims.mem_sKept _ _).mpr
      ⟨show (2 : Fin 3) ∉ ([1] : List (Fin 3)) by decide, show (2 : Fin 3) ∉ ([0] : List (Fin 3)) by decide⟩)]
    rfl

/-- The index of step `e + t`, kept between 0 and 63, and the same with negative ones moved up by 64. -/
abbrev kept (e : BitVec 32) (t : ℕ) : BitVec 32 := IntOp.minsi 63#32 (IntOp.maxsi 0#32 (IntOp.addi e (BitVec.ofNat 32 t)))
abbrev wrapped (w : BitVec 32) : BitVec 32 := Scalar.select (IntOp.cmpi .slt w 0#32) (IntOp.addi w 64#32) w

theorem kept_toInt (e : BitVec 32) (t : ℕ) (ht : t < 64) (h0 : 0 ≤ e.toInt) (h1 : e.toInt ≤ 63) :
    (kept e t).toInt = min 63 (t + e.toInt) := by
  have ha : (IntOp.addi e (BitVec.ofNat 32 t)).toInt = t + e.toInt := by
    have hs := Cell.toInt_small t ht.le
    rw [Cell.toInt_addi _ _ (by omega) (by omega)]
    omega
  unfold kept
  generalize IntOp.addi e (BitVec.ofNat 32 t) = a at ha
  rw [← ha]
  have h : (IntOp.maxsi 0#32 a).toInt = max 0 a.toInt := by
    unfold IntOp.maxsi
    simp only [BitVec.slt, BitVec.sle]
    split <;> simp_all <;> omega
  generalize IntOp.maxsi 0#32 a = a' at h
  have h' : (IntOp.minsi 63#32 a').toInt = min 63 a'.toInt := by
    unfold IntOp.minsi
    simp only [BitVec.slt, BitVec.sle]
    split <;> simp_all <;> omega
  omega

theorem wrapped_eq (w : BitVec 32) (h0 : 0 ≤ w.toInt) : wrapped w = w := by
  unfold wrapped Scalar.select IntOp.cmpi
  simp [BitVec.slt, show ¬ w.toInt < 0 by omega]

theorem within (w : BitVec 32) (h0 : 0 ≤ w.toInt) (h1 : w.toInt ≤ 63) :
    Finset.fold IntOp.andi (1#1) (fun _ : Fin 1 => IntOp.andi (IntOp.cmpi .sge w 0#32) (IntOp.cmpi .sle w 63#32)) Finset.univ = 1#1 := by
  have h : IntOp.andi (IntOp.cmpi .sge w 0#32) (IntOp.cmpi .sle w 63#32) = 1#1 := by
    unfold IntOp.andi IntOp.cmpi
    simp [BitVec.sle, h0, h1]
  rw [h]
  decide

variable (V : Valuation τ sig (Elt Ideal))

/-- How many steps batch row `b`'s mask names. -/
def maskSum (b : Fin 8) : BitVec 32 :=
  Finset.fold IntOp.addi (0#32) (fun t => (V (Proc.devRef .tc main_arg1) : IVec S8x64 32) (ix2 b t)) Finset.univ

set_option maxHeartbeats 2000000 in
theorem mid_input (b : Fin 8) (hm : maskSum V b = 64#32) (h0 : 0 ≤ (endOf V b).toInt) (h1 : (endOf V b).toInt ≤ 63)
    (hV : ∀ t : Fin 64, (V (Proc.devRef .tc main_v0) : IVec S64 32) (ix1 t) = BitVec.ofNat 32 t.val) (t : Fin 64) :
    inputR (after opsMid V) t b = Cell.rightInput (feats V b) (endOf V b).toInt t.val := by
  funext k
  unfold inputR Cell.rightInput
  have e : (IntOp.subi 64#32 (endOf V b)).toInt = 64 - (endOf V b).toInt := by
    rw [Cell.toInt_subi] <;> simp <;> omega
  rw [← e, ← Cell.select_slt t.val t.isLt.le]
  have hk := kept_toInt _ t.val t.isLt h0 h1
  have hw := wrapped_eq _ (show 0 ≤ (kept (endOf V b) t.val).toInt by omega)
  have hi := within _ (show 0 ≤ (kept (endOf V b) t.val).toInt by omega) (by omega)
  have hn : min (kept (endOf V b) t.val).toInt.toNat 63 = min (t.val + (endOf V b).toInt.toNat) 63 := by omega
  unfold maskSum at hm
  unfold endOf at hw hi hn ⊢
  unfold wrapped kept at hw
  unfold kept at hi hn
  after_reads_at
  simp only [id]
  pointwise [gather_at, hV, hm, hw, hi]
  exact congrArg (fun q => Scalar.select _ q 0) (congrArg _ ((ix3_inj ..).2 ⟨rfl, Fin.ext hn, rfl⟩))

theorem mid_len (b : Fin 8) (hm : maskSum V b = 64#32) (h0 : 0 ≤ (endOf V b).toInt) (h1 : (endOf V b).toInt ≤ 63) :
    lengthR (after opsMid V) b = 64 - (endOf V b).toInt := by
  have e : (Scalar.select (IntOp.cmpi .sgt 64#32 (endOf V b)) (IntOp.subi 64#32 (endOf V b)) 1#32).toInt = 64 - (endOf V b).toInt := by
    rw [Cell.toInt_select_sgt, if_pos (by simp; omega), Cell.toInt_subi] <;> simp <;> omega
  rw [← e, lengthR]
  unfold maskSum at hm
  unfold endOf
  after_reads_at
  simp only [id]
  pointwise [hm]

theorem mid_steps (t : Fin 64) : (after opsMid V (Proc.devRef .tc main_v44_1) : IVec S64 32) (ix1 t) = BitVec.ofNat 32 t.val := by
  after_reads_at
  simp only [id]
  pointwise

theorem mid_state (b : Fin 8) : stateR (after opsMid V) b = (fun _ => 0, fun _ => 0) := by
  refine Prod.ext (funext fun d => ?_) (funext fun d => ?_)
  all_goals
    simp only [stateR, Cell.rowOf]
    after_reads_at
    simp only [id]
    pointwise

theorem mid_weights : weightsR (after opsMid V) = argWeights V := by
  unfold weightsR argWeights
  after_reads_simp
  simp only [id]

end Cert.Reference
-- ==== Proof.RValue.lean ====
/-
  The reference's result over the extended reals: its two loops run the two spans of every row, and the result joins
  their hidden states and applies the last linear layer.
-/
module

public import proofs.«01_k».proof.Proof.RStep
public import proofs.«01_k».proof.Proof.RPre
public import proofs.«01_k».proof.Proof.RMid

@[expose] public section

set_option maxRecDepth 16384

noncomputable section

namespace Cert.Reference

open Cert.ReferenceIdeal Cert.ReferenceIdeal.Gen
open Idealize.ShloMosaic Idealize.ShloMosaic.TcCoe
open Idealize.ShloMosaic.StableHlo (after atTrip held)

variable (m : (ℓ : Loc nD τ sig) → Buf (Elt Ideal) ℓ) (c : Dev nD)

theorem iv_eq (k : ℕ) : Scf.iv (0#32 : BitVec 32) 1#32 k = BitVec.ofNat 32 k := by
  simp [Scf.iv]

/-- What the precondition gives of row `b`'s arguments. -/
structure Inside (V : Valuation τ sig (Elt Ideal)) (b : Fin 8) : Prop where
  mask : maskSum V b = 64#32
  start_pos : 0 ≤ (startOf V b).toInt
  start_le : (startOf V b).toInt ≤ 64
  end_pos : 0 ≤ (endOf V b).toInt
  end_le : (endOf V b).toInt ≤ 63

theorem condL_of (V : Valuation τ sig (Elt Ideal)) (r : Ref sig .tc) (h : r ∉ condL_W) :
    after condL V (Proc.devRef .tc r) = V (Proc.devRef .tc r) := StableHlo.after_of_writes_sub condL _ condL_writes h
theorem condR_of (V : Valuation τ sig (Elt Ideal)) (r : Ref sig .tc) (h : r ∉ condR_W) :
    after condR V (Proc.devRef .tc r) = V (Proc.devRef .tc r) := StableHlo.after_of_writes_sub condR _ condR_writes h

theorem loopL_of (k : ℕ) (r : Ref sig .tc) (hc : r ∉ condL_W) (hb : r ∉ bodyL_W) :
    after condL (tripL m k c) (Proc.devRef .tc r) = R1 m c (Proc.devRef .tc r) :=
  (condL_of _ r hc).trans (tripL_of m c r hc hb k)
theorem loopR_of (k : ℕ) (r : Ref sig .tc) (hc : r ∉ condR_W) (hb : r ∉ bodyR_W) :
    after condR (tripR m k c) (Proc.devRef .tc r) = R3 m c (Proc.devRef .tc r) :=
  (condR_of _ r hc).trans (tripR_of m c r hc hb k)

/-- Before trip `k` the first loop holds the left span's state after `k` trips. -/
theorem stateL_trip (b : Fin 8) (h : Inside (R0 m c) b) : ∀ k : ℕ, k ≤ 64 →
    stateL (tripL m k c) b = Cell.run (argWeights (R0 m c)) (Cell.leftInput (feats (R0 m c) b) (startOf (R0 m c) b).toInt)
      (max ((startOf (R0 m c) b).toInt - 1) 1) k
  | 0, _ => pre_state (R0 m c) b
  | k + 1, hk => by
    have ih := stateL_trip b h k (by omega)
    have at_ : AtL (after condL (tripL m k c)) k :=
      ⟨by omega, (condL_of _ main_v20_7 (by decide +kernel)).trans ((counterL m c k).trans (by rw [iv_eq])), fun t => by
        rw [loopL_of m c k _ (by decide +kernel) (by decide +kernel)]; exact pre_steps (R0 m c) t⟩
    have e : stateL (after condL (tripL m k c)) b = stateL (tripL m k c) b := by
      unfold stateL
      rw [condL_of _ main_v20_8 (by decide +kernel), condL_of _ main_v20_9 (by decide +kernel)]
    have w : weightsL (after condL (tripL m k c)) = argWeights (R0 m c) := by
      refine Eq.trans ?_ (pre_weights (R0 m c))
      unfold weightsL
      rw [loopL_of m c k main_v20_2 (by decide +kernel) (by decide +kernel), loopL_of m c k main_v20_3 (by decide +kernel) (by decide +kernel),
        loopL_of m c k main_v20_4 (by decide +kernel) (by decide +kernel), loopL_of m c k main_v20_5 (by decide +kernel) (by decide +kernel)]
      rfl
    have l : lengthL (after condL (tripL m k c)) b = max ((startOf (R0 m c) b).toInt - 1) 1 := by
      refine Eq.trans ?_ (pre_len (R0 m c) b h.start_pos h.start_le)
      unfold lengthL
      rw [loopL_of m c k main_v20_6 (by decide +kernel) (by decide +kernel)]
      rfl
    have i : inputL (after condL (tripL m k c)) ⟨k, at_.lt⟩ b = Cell.leftInput (feats (R0 m c) b) (startOf (R0 m c) b).toInt k := by
      refine Eq.trans ?_ (pre_input (R0 m c) b h.start_pos h.start_le ⟨k, at_.lt⟩)
      unfold inputL
      rw [loopL_of m c k main_v20_0 (by decide +kernel) (by decide +kernel)]
      rfl
    rw [tripL_succ, bodyL_state _ k at_ b, e, w, l, i, ih]
    rfl

theorem R2_of (r : Ref sig .tc) (hc : r ∉ condL_W) (hb : r ∉ bodyL_W) : R2 m c (Proc.devRef .tc r) = R1 m c (Proc.devRef .tc r) :=
  loopL_of m c 64 r hc hb

theorem feats_R2 (b : Fin 8) : feats (R2 m c) b = feats (R0 m c) b := by
  unfold feats; rw [R2_args m c main_arg0 (by decide)]; rfl
theorem endOf_R2 (b : Fin 8) : endOf (R2 m c) b = endOf (R0 m c) b := by
  unfold endOf; rw [R2_args m c main_arg3 (by decide)]; rfl
theorem maskSum_R2 (b : Fin 8) : maskSum (R2 m c) b = maskSum (R0 m c) b := by
  unfold maskSum; rw [R2_args m c main_arg1 (by decide)]; rfl
theorem argWeights_R2 : argWeights (R2 m c) = argWeights (R0 m c) := by
  unfold argWeights
  rw [R2_args m c main_arg4 (by decide), R2_args m c main_arg5 (by decide), R2_args m c main_arg6 (by decide), R2_args m c main_arg7 (by decide)]
  rfl

theorem pre_arange (V : Valuation τ sig (Elt Ideal)) (t : Fin 64) :
    (after opsPre V (Proc.devRef .tc main_v0) : IVec S64 32) (ix1 t) = BitVec.ofNat 32 t.val := by
  after_reads_at

theorem arange_R2 (t : Fin 64) : (R2 m c (Proc.devRef .tc main_v0) : IVec S64 32) (ix1 t) = BitVec.ofNat 32 t.val := by
  rw [R2_of m c main_v0 (by decide +kernel) (by decide +kernel)]
  exact pre_arange (R0 m c) t

/-- Before trip `k` the second loop holds the right span's state after `k` trips. -/
theorem stateR_trip (b : Fin 8) (h : Inside (R0 m c) b) : ∀ k : ℕ, k ≤ 64 →
    stateR (tripR m k c) b = Cell.run (argWeights (R0 m c)) (Cell.rightInput (feats (R0 m c) b) (endOf (R0 m c) b).toInt)
      (64 - (endOf (R0 m c) b).toInt) k
  | 0, _ => by
    rw [show tripR m 0 c = after opsMid (R2 m c) from rfl, mid_state]
    rfl
  | k + 1, hk => by
    have ih := stateR_trip b h k (by omega)
    have hm : maskSum (R2 m c) b = 64#32 := (maskSum_R2 m c b).trans h.mask
    have h0 : 0 ≤ (endOf (R2 m c) b).toInt := by rw [endOf_R2]; exact h.end_pos
    have h1 : (endOf (R2 m c) b).toInt ≤ 63 := by rw [endOf_R2]; exact h.end_le
    have at_ : AtR (after condR (tripR m k c)) k :=
      ⟨by omega, (condR_of _ main_v44_7 (by decide +kernel)).trans ((counterR m c k).trans (by rw [iv_eq])), fun t => by
        rw [loopR_of m c k _ (by decide +kernel) (by decide +kernel)]; exact mid_steps (R2 m c) t⟩
    have e : stateR (after condR (tripR m k c)) b = stateR (tripR m k c) b := by
      unfold stateR
      rw [condR_of _ main_v44_8 (by decide +kernel), condR_of _ main_v44_9 (by decide +kernel)]
    have w : weightsR (after condR (tripR m k c)) = argWeights (R0 m c) := by
      refine Eq.trans ?_ ((mid_weights (R2 m c)).trans (argWeights_R2 m c))
      unfold weightsR
      rw [loopR_of m c k main_v44_2 (by decide +kernel) (by decide +kernel), loopR_of m c k main_v44_3 (by decide +kernel) (by decide +kernel),
        loopR_of m c k main_v44_4 (by decide +kernel) (by decide +kernel), loopR_of m c k main_v44_5 (by decide +kernel) (by decide +kernel)]
      rfl
    have l : lengthR (after condR (tripR m k c)) b = 64 - (endOf (R0 m c) b).toInt := by
      refine Eq.trans ?_ ((mid_len (R2 m c) b hm h0 h1).trans (by rw [endOf_R2]))
      unfold lengthR
      rw [loopR_of m c k main_v44_6 (by decide +kernel) (by decide +kernel)]
      rfl
    have i : inputR (after condR (tripR m k c)) ⟨k, at_.lt⟩ b = Cell.rightInput (feats (R0 m c) b) (endOf (R0 m c) b).toInt k := by
      refine Eq.trans ?_ ((mid_input (R2 m c) b hm h0 h1 (arange_R2 m c) ⟨k, at_.lt⟩).trans (by rw [endOf_R2, feats_R2]))
      unfold inputR
      rw [loopR_of m c k main_v44_0 (by decide +kernel) (by decide +kernel)]
      rfl
    rw [tripR_succ, bodyR_state _ k at_ b, e, w, l, i, ih]
    rfl

set_option maxHeartbeats 2000000 in
theorem post_out (V : Valuation τ sig (Elt Ideal)) (b : Fin 8) (j : Fin 768) :
    (after opsPost V (Proc.devRef .tc main_v50) : FVec Ideal S8x768 .f32) (ix2 b j)
      = Cell.layer (V (Proc.devRef .tc main_arg8)) (V (Proc.devRef .tc main_arg9))
          (Cell.rowOf (n := 8) (V (Proc.devRef .tc main_v20_8)) b) (Cell.rowOf (n := 8) (V (Proc.devRef .tc main_v44_8)) b) j := by
  after_reads_at
  after_reads_at
  pointwise [Cell.layer, Cell.rowOf]

theorem stateL_fst (V : Valuation τ sig (Elt Ideal)) (b : Fin 8) :
    (stateL V b).1 = Cell.rowOf (n := 8) (V (Proc.devRef .tc main_v20_8)) b := rfl
theorem stateR_fst (V : Valuation τ sig (Elt Ideal)) (b : Fin 8) :
    (stateR V b).1 = Cell.rowOf (n := 8) (V (Proc.devRef .tc main_v44_8)) b := rfl
theorem left_kept : R4 m c (Proc.devRef .tc main_v20_8) = tripL m 64 c (Proc.devRef .tc main_v20_8) := by
  have h1 : R4 m c (Proc.devRef .tc main_v20_8) = R3 m c (Proc.devRef .tc main_v20_8) :=
    loopR_of m c 64 main_v20_8 (by decide +kernel) (by decide +kernel)
  have h2 : R3 m c (Proc.devRef .tc main_v20_8) = R2 m c (Proc.devRef .tc main_v20_8) :=
    StableHlo.after_of_writes_sub opsMid (R2 m c) opsMid_writes (r := main_v20_8) (by decide +kernel)
  have h3 : R2 m c (Proc.devRef .tc main_v20_8) = tripL m 64 c (Proc.devRef .tc main_v20_8) :=
    condL_of _ main_v20_8 (by decide +kernel)
  exact h1.trans (h2.trans h3)
theorem right_kept : R4 m c (Proc.devRef .tc main_v44_8) = tripR m 64 c (Proc.devRef .tc main_v44_8) :=
  condR_of _ main_v44_8 (by decide +kernel)

/-- The reference's result. -/
theorem result (b : Fin 8) (h : Inside (R0 m c) b) (j : Fin 768) :
    (R5 m c (Proc.devRef .tc main_v50) : FVec Ideal S8x768 .f32) (ix2 b j)
      = Cell.layer (R0 m c (Proc.devRef .tc main_arg8)) (R0 m c (Proc.devRef .tc main_arg9))
          (Cell.run (argWeights (R0 m c)) (Cell.leftInput (feats (R0 m c) b) (startOf (R0 m c) b).toInt)
            (max ((startOf (R0 m c) b).toInt - 1) 1) 64).1
          (Cell.run (argWeights (R0 m c)) (Cell.rightInput (feats (R0 m c) b) (endOf (R0 m c) b).toInt)
            (64 - (endOf (R0 m c) b).toInt) 64).1 j := by
  have hl : Cell.rowOf (n := 8) (R4 m c (Proc.devRef .tc main_v20_8)) b = (stateL (tripL m 64 c) b).1 := by
    rw [left_kept, stateL_fst]
  have hr : Cell.rowOf (n := 8) (R4 m c (Proc.devRef .tc main_v44_8)) b = (stateR (tripR m 64 c) b).1 := by
    rw [right_kept, stateR_fst]
  rw [stateL_trip m c b h 64 le_rfl] at hl
  rw [stateR_trip m c b h 64 le_rfl] at hr
  rw [← hl, ← hr]
  rw [show R5 m c = after opsPost (R4 m c) from rfl, post_out, R4_args m c main_arg8 (by decide), R4_args m c main_arg9 (by decide)]
  rfl

end Cert.Reference
-- ==== Proof.Pre.lean ====
/-
  What the precondition says of the arguments: each example's mask counts sixty-four tokens, and
  the two ends of its span lie inside the sequence.
-/
module

public import proofs.«01_k».proof.Pre_spans_inside
public import Idealize.ShloMosaic.Lib.Pointwise

@[expose] public section

noncomputable section

namespace Cert.Spans

open Idealize.ShloMosaic Cert.Pre_spans_inside

theorem facts : Cert.Pre_spans_inside.Facts := ⟨by decide, by decide, by decide, by decide⟩

/-- A conjunction of two bits is one exactly when both are. -/
theorem and_one (a b : BitVec 1) : IntOp.andi a b = 1#1 ↔ a = 1#1 ∧ b = 1#1 := by
  revert a b; decide

/-- A conjunction over a finite family is one only if every member is. -/
theorem fold_and_one {n : Nat} (f : Fin n → BitVec 1) (s : Finset (Fin n))
    (h : Finset.fold IntOp.andi (1#1) f s = 1#1) : ∀ i ∈ s, f i = 1#1 := by
  induction s using Finset.induction_on with
  | empty => intro i hi; simp at hi
  | insert a s ha ih =>
    rw [Finset.fold_insert ha, and_one] at h
    intro i hi
    rcases Finset.mem_insert.1 hi with rfl | hi
    · exact h.1
    · exact ih h.2 i hi

theorem bit_one (p : Bool) (h : BitVec.ofBool p = 1#1) : p = true := by
  revert p; decide

/-- What a comparison of words that came out one says of the words. -/
theorem eq_of_cmp (a b : BitVec 32) (h : IntOp.cmpi .eq a b = 1#1) : a = b :=
  eq_of_beq (bit_one _ h)
theorem ge_of_cmp (a b : BitVec 32) (h : IntOp.cmpi .sge a b = 1#1) : b.toInt ≤ a.toInt :=
  of_decide_eq_true (bit_one _ h)
theorem le_of_cmp (a b : BitVec 32) (h : IntOp.cmpi .sle a b = 1#1) : a.toInt ≤ b.toInt :=
  of_decide_eq_true (bit_one _ h)

/-- Where the precondition holds, every example's mask counts sixty-four and its span lies inside the sequence. -/
theorem of_pre (x0 : FVec Ideal S8x64x2304 .f32) (mask : IVec S8x64 32) (st en : IVec S8 32)
    (x4 x5 : FVec Ideal S9216x2304 .f32) (x6 x7 : FVec Ideal S9216 .f32) (x8 : FVec Ideal S768x4608 .f32) (x9 : FVec Ideal S768 .f32)
    (h : letI := facts; fn (F := Ideal) x0 mask st en x4 x5 x6 x7 x8 x9 = fun _ => 1#1) (b : Fin 8) :
    Finset.fold IntOp.addi (0#32) (fun t : Fin 64 => mask (ix2 b t)) Finset.univ = 64#32
      ∧ 0 ≤ (st (ix1 b)).toInt ∧ (st (ix1 b)).toInt ≤ 64 ∧ 0 ≤ (en (ix1 b)).toInt ∧ (en (ix1 b)).toInt ≤ 63 := by
  have h0 := congrFun h ix0
  revert h0
  pointwise [fn, fn_part1]
  simp only [and_one]
  rintro ⟨⟨hm, hs⟩, he⟩
  have hm := fold_and_one _ _ hm b (Finset.mem_univ _)
  have hs := fold_and_one _ _ hs b (Finset.mem_univ _)
  have he := fold_and_one _ _ he b (Finset.mem_univ _)
  simp only [and_one] at hs he
  exact ⟨eq_of_cmp _ _ hm, ge_of_cmp _ _ hs.1, le_of_cmp _ _ hs.2, ge_of_cmp _ _ he.1, le_of_cmp _ _ he.2⟩

end Cert.Spans

end
-- ==== Proof.Equal.lean ====
/-
  The kernel and the reference end with equal results: where every example's mask counts sixty-four tokens and its span lies
  inside the sequence, each entry of either result is the last linear layer of the same two runs of the recurrence.
-/
module

public import proofs.«01_k».proof.Defs
public import proofs.«01_k».proof.Proof.Frames
public import proofs.«01_k».proof.Proof.KValue
public import proofs.«01_k».proof.Proof.RValue
public import proofs.«01_k».proof.Proof.Pre

@[expose] public section

noncomputable section

namespace Cert.Equal

open Idealize.ShloMosaic Idealize.SL.Sem
open Idealize.ShloMosaic.TcCoe

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories hold the same arguments on a device. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

variable {m m'} in
/-- Where the memories agree, row `b` of the reference's arguments is that of the kernel's. -/
theorem start_eq {c : Dev Cert.KernelIdeal.nD} (a : Agree m m' c) (b : Fin 8) :
    Cert.Reference.startOf (Cert.Reference.R0 m' c) b = Cert.Lstm.startOf m c b :=
  congrArg (fun v : IVec Cert.KernelIdeal.S8 32 => v (ix1 b)) a.2.2.1

variable {m m'} in
theorem end_eq {c : Dev Cert.KernelIdeal.nD} (a : Agree m m' c) (b : Fin 8) :
    Cert.Reference.endOf (Cert.Reference.R0 m' c) b = Cert.Lstm.endOf m c b :=
  congrArg (fun v : IVec Cert.KernelIdeal.S8 32 => v (ix1 b)) a.2.2.2.1

variable {m m'} in
theorem feats_eq {c : Dev Cert.KernelIdeal.nD} (a : Agree m m' c) (b : Fin 8) :
    Cert.Reference.feats (Cert.Reference.R0 m' c) b = Cert.Lstm.feats m c b :=
  congrArg (fun v : FVec Ideal Cert.KernelIdeal.S8x64x2304 .f32 => fun t k => v (ix3 b t k)) a.1

variable {m m'} in
theorem weights_eq {c : Dev Cert.KernelIdeal.nD} (a : Agree m m' c) :
    Cert.Reference.argWeights (Cert.Reference.R0 m' c) = Cert.Lstm.argWeights m c :=
  congr (congr (congr (congrArg Cell.weights a.2.2.2.2.1) a.2.2.2.2.2.1) a.2.2.2.2.2.2.1) a.2.2.2.2.2.2.2.1

variable {m m'} in
/-- The precondition on the kernel's arguments, said of the reference's. -/
theorem inside {c : Dev Cert.KernelIdeal.nD} (a : Agree m m' c)
    (hp : letI := Cert.Spans.facts; Cert.Pre_KernelIdeal_spans_inside m) (b : Fin 8) :
    Cert.Reference.Inside (Cert.Reference.R0 m' c) b := by
  obtain ⟨p0, p1, p2, p3, p4⟩ := Cert.Spans.of_pre _ _ _ _ _ _ _ _ _ _ (hp c) b
  exact ⟨(congrArg (fun v : IVec Cert.KernelIdeal.S8x64 32 =>
        Finset.fold IntOp.addi (0#32) (fun t : Fin 64 => v (ix2 b t)) Finset.univ) a.2.1).trans p0,
      by rw [start_eq a]; exact p1, by rw [start_eq a]; exact p2, by rw [end_eq a]; exact p3, by rw [end_eq a]; exact p4⟩

/-- One entry of the two results. -/
theorem entry (c : Dev Cert.KernelIdeal.nD) (a : Agree m m' c)
    (hp : letI := Cert.Spans.facts; Cert.Pre_KernelIdeal_spans_inside m) (b : Fin 8) (j : Fin 768) :
    (Cert.Reference.R5 m' c (Proc.devRef .tc Cert.ReferenceIdeal.main_v50) : FVec Ideal Cert.ReferenceIdeal.S8x768 .f32) (ix2 b j)
      = (Cert.Lstm.W5 m c (Proc.devRef .tc Cert.KernelIdeal.main_v0) : FVec Ideal Cert.KernelIdeal.S8x768 .f32) (ix2 b j) := by
  have hi := inside a hp b
  have hr := Cert.Reference.result m' c b hi j
  have hk := Cert.Lstm.result m c b j (by rw [← start_eq a]; exact hi.start_pos) (by rw [← start_eq a]; exact hi.start_le)
    (by rw [← end_eq a]; exact hi.end_pos) (by rw [← end_eq a]; exact hi.end_le)
  rw [start_eq a, end_eq a, feats_eq a, weights_eq a] at hr
  refine hr.trans (Eq.trans ?_ hk.symm)
  exact congrArg₂ (fun wo bo => Cell.layer wo bo _ _ j) a.2.2.2.2.2.2.2.2.1 a.2.2.2.2.2.2.2.2.2

theorem results (c : Dev Cert.KernelIdeal.nD) (a : Agree m m' c)
    (hp : letI := Cert.Spans.facts; Cert.Pre_KernelIdeal_spans_inside m) :
    (Cert.Reference.R5 m' c (Proc.devRef .tc Cert.ReferenceIdeal.main_v50) : FVec Ideal Cert.ReferenceIdeal.S8x768 .f32)
      = (Cert.Lstm.W5 m c (Proc.devRef .tc Cert.KernelIdeal.main_v0) : FVec Ideal Cert.KernelIdeal.S8x768 .f32) := by
  funext y
  rw [eq_ix2 y]
  exact entry m m' c a hp _ _

theorem equal : Cert.algebraic_KernelIdeal_ReferenceIdeal_pre_spans_inside (hKernelIdeal := Cert.KernelIdeal.Gen.facts)
    (hReferenceIdeal := Cert.ReferenceIdeal.Gen.facts) (hPre_spans_inside := Cert.Spans.facts) := fun m g m' g' hp ha =>
  ⟨fun c => Cert.Lstm.W5 m c (Proc.devRef .tc Cert.KernelIdeal.main_v0),
    (θ_run _ _ _).mono (fun _ h c => ⟨h.1 c _ (Cert.Lstm.mem_uc Cert.KernelIdeal.main_v0 (by decide)), Cert.Lstm.args_kept m (h.1 c)⟩)
      (Cert.Lstm.run m g),
    (θ_run _ _ _).mono (fun _ h c => ⟨(h.1 c _ (Cert.Reference.mem_uc Cert.ReferenceIdeal.main_v50 (by decide))).trans
        (results m m' c (ha c) hp), Cert.Reference.args_kept m' (h.1 c)⟩)
      (Cert.Reference.run m' g')⟩

end Cert.Equal

end
-- ==== Proof.lean ====
module

public import proofs.«01_k».proof.Defs
public import proofs.«01_k».proof.Proof.Gen.Kernel
public import proofs.«01_k».proof.Proof.Frames
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, Cert.Spans.facts,
    Cert.Lstm.frame_kernel, Cert.Lstm.frame_ideal, fun m g _ => Cert.Lstm.frame_ideal m g trivial,
    Cert.Lstm.frame_reference, fun m g _ => Cert.Lstm.frame_reference m g trivial, trivial, Cert.Equal.equal⟩

end Cert.Proof

end
